-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S4x4096x2048 : Shape := ⟨3, ![4, 4096, 2048]⟩
abbrev S16x2048 : Shape := ⟨2, ![16, 2048]⟩
abbrev S16 : Shape := ⟨1, ![16]⟩
abbrev S_ : Shape := ⟨0, ![]⟩

class Facts : Prop where
  bcast_S_S4x4096x2048 : S_.BroadcastsInDim S4x4096x2048 (![] : Fin 0 → Fin S4x4096x2048.rank)
  bcast_S_S16x2048 : S_.BroadcastsInDim S16x2048 (![] : Fin 0 → Fin S16x2048.rank)
  bcast_S_S16 : S_.BroadcastsInDim S16 (![] : Fin 0 → Fin S16.rank)

variable [Facts]

def fn {F : FTy → Type} [FloatOps F] (main_arg0 : FVec F S4x4096x2048 .f32) (main_arg1 : FVec F S16x2048 .f32) (main_arg2 : FVec F S16 .f32) (main_arg3 : FVec F S16x2048 .f32) (main_arg4 : FVec F S16 .f32) : IVec S4x4096x2048 1 × IVec S16x2048 1 × IVec S16 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S16 .f32 := Host.absf main_arg2
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S4x4096x2048 : Shape := ⟨3, ![4, 4096, 2048]⟩
abbrev S16x2048 : Shape := ⟨2, ![16, 2048]⟩
abbrev S16 : Shape := ⟨1, ![16]⟩
abbrev S16384x2048 : Shape := ⟨2, ![16384, 2048]⟩
abbrev S1x16 : Shape := ⟨2, ![1, 16]⟩
abbrev S16x16384 : Shape := ⟨2, ![16, 16384]⟩
abbrev S2x16384 : Shape := ⟨2, ![2, 16384]⟩
abbrev S16x1 : Shape := ⟨2, ![16, 1]⟩
abbrev S1x1 : Shape := ⟨2, ![1, 1]⟩
abbrev S16x512 : Shape := ⟨2, ![16, 512]⟩
abbrev S2x512 : Shape := ⟨2, ![2, 512]⟩
abbrev S12x512x2048 : Shape := ⟨3, ![12, 512, 2048]⟩
abbrev S2048x32 : Shape := ⟨2, ![2048, 32]⟩
abbrev S12 : Shape := ⟨1, ![12]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S2048x16 : Shape := ⟨2, ![2048, 16]⟩
abbrev S1x512x2048 : Shape := ⟨3, ![1, 512, 2048]⟩
abbrev S512x2048 : Shape := ⟨2, ![512, 2048]⟩
abbrev S512x32 : Shape := ⟨2, ![512, 32]⟩
abbrev S32x512 : Shape := ⟨2, ![32, 512]⟩
abbrev S512 : Shape := ⟨1, ![512]⟩
abbrev S1x512 : Shape := ⟨2, ![1, 512]⟩
abbrev S1x16x1 : Shape := ⟨3, ![1, 16, 1]⟩
abbrev S1x1x1 : Shape := ⟨3, ![1, 1, 1]⟩
abbrev S16384x16 : Shape := ⟨2, ![16384, 16]⟩
abbrev S4x4096x16 : Shape := ⟨3, ![4, 4096, 16]⟩
abbrev S16384x2 : Shape := ⟨2, ![16384, 2]⟩
abbrev S4x4096x2 : Shape := ⟨3, ![4, 4096, 2]⟩

abbrev nBuf : Space → Nat
  | .hbm => 26
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S16x2048, .f32⟩
  | .hbm, ⟨4, _⟩ => ⟨S16, .f32⟩
  | .hbm, ⟨5, _⟩ => ⟨S16384x2048, .f32⟩
  | .hbm, ⟨6, _⟩ => ⟨S1x16, .f32⟩
  | .hbm, ⟨7, _⟩ => ⟨S1x16, .f32⟩
  | .hbm, ⟨8, _⟩ => ⟨S16x16384, .f32⟩
  | .hbm, ⟨9, _⟩ => ⟨S2x16384, .i32⟩
  | .hbm, ⟨10, _⟩ => ⟨S2x16384, .f32⟩
  | .hbm, ⟨11, _⟩ => ⟨S16x16384, .f32⟩
  | .hbm, ⟨12, _⟩ => ⟨S16x1, .f32⟩
  | .hbm, ⟨13, _⟩ => ⟨S16x1, .f32⟩
  | .hbm, ⟨14, _⟩ => ⟨S1x1, .f32⟩
  | .hbm, ⟨15, _⟩ => ⟨S1x1, .f32⟩
  | .hbm, ⟨16, _⟩ => ⟨S16384x16, .f32⟩
  | .hbm, ⟨17, _⟩ => ⟨S4x4096x16, .f32⟩
  | .hbm, ⟨18, _⟩ => ⟨S16384x2, .i32⟩
  | .hbm, ⟨19, _⟩ => ⟨S4x4096x2, .i32⟩
  | .hbm, ⟨20, _⟩ => ⟨S16384x2, .f32⟩
  | .hbm, ⟨21, _⟩ => ⟨S4x4096x2, .f32⟩
  | .hbm, ⟨22, _⟩ => ⟨S16384x16, .f32⟩
  | .hbm, ⟨23, _⟩ => ⟨S4x4096x16, .f32⟩
  | .hbm, ⟨24, _⟩ => ⟨S_, .f32⟩
  | .hbm, ⟨25, _⟩ => ⟨S_, .f32⟩
  | .local _ .vmem, ⟨0, _⟩ => ⟨S16x2048, .f32⟩
  | .local _ .vmem, ⟨1, _⟩ => ⟨S16x2048, .f32⟩
  | .local _ .vmem, ⟨2, _⟩ => ⟨S1x16, .f32⟩
  | .local _ .vmem, ⟨3, _⟩ => ⟨S1x16, .f32⟩
  | .local _ .vmem, ⟨4, _⟩ => ⟨S16x512, .f32⟩
  | .local _ .vmem, ⟨5, _⟩ => ⟨S16x512, .f32⟩
  | .local _ .vmem, ⟨6, _⟩ => ⟨S2x512, .i32⟩
  | .local _ .vmem, ⟨7, _⟩ => ⟨S2x512, .i32⟩
  | .local _ .vmem, ⟨8, _⟩ => ⟨S2x512, .f32⟩
  | .local _ .vmem, ⟨9, _⟩ => ⟨S2x512, .f32⟩
  | .local _ .vmem, ⟨10, _⟩ => ⟨S16x512, .f32⟩
  | .local _ .vmem, ⟨11, _⟩ => ⟨S16x512, .f32⟩
  | .local _ .vmem, ⟨12, _⟩ => ⟨S16x1, .f32⟩
  | .local _ .vmem, ⟨13, _⟩ => ⟨S16x1, .f32⟩
  | .local _ .vmem, ⟨14, _⟩ => ⟨S1x1, .f32⟩
  | .local _ .vmem, ⟨15, _⟩ => ⟨S1x1, .f32⟩
  | .local _ .vmem, ⟨16, _⟩ => ⟨S12x512x2048, .f32⟩
  | .local _ .vmem, ⟨17, _⟩ => ⟨S2048x32, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_49 : BitVec 32) : Fin 1 → Nat :=
  let c12_i32_50 : BitVec 32 := 12#32
  let v111 : BitVec 32 := Scalar.remsi c0_i32_49 c12_i32_50
  ![v111.toNat]
def k0_off2 (c0_i32_49 : BitVec 32) : Fin 3 → Nat :=
  let c12_i32_50 : BitVec 32 := 12#32
  let v111 : BitVec 32 := Scalar.remsi c0_i32_49 c12_i32_50
  let c0_i32_51 : BitVec 32 := 0#32
  let c0_i32_52 : BitVec 32 := 0#32
  ![v111.toNat, 0, 0]
def k0_off3 (c0_i32_55 : BitVec 32) : Fin 3 → Nat :=
  let c12_i32_56 : BitVec 32 := 12#32
  let v117 : BitVec 32 := Scalar.remsi c0_i32_55 c12_i32_56
  let c0_i32_57 : BitVec 32 := 0#32
  let c1024_i32_58 : BitVec 32 := 1024#32
  ![v117.toNat, 0, 1024]
def k0_cond2 (i : grid0.Coords) : BitVec 1 :=
  let arg0 : BitVec 32 := BitVec.ofNat 32 (i 0).val
  let c12_i32 : BitVec 32 := 12#32
  let v3 : BitVec 32 := Scalar.addi arg0 c12_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off4 (i : grid0.Coords) : Fin 1 → Nat :=
  let arg0 : BitVec 32 := BitVec.ofNat 32 (i 0).val
  let c12_i32_49 : BitVec 32 := 12#32
  let v111 : BitVec 32 := Scalar.addi arg0 c12_i32_49
  let c1_i32_50 : BitVec 32 := 1#32
  let v112 : BitVec 32 := Scalar.subi v111 c1_i32_50
  let c12_i32_51 : BitVec 32 := 12#32
  let v113 : BitVec 32 := Scalar.remsi v112 c12_i32_51
  ![v113.toNat]
def k0_off5 (i : grid0.Coords) : Fin 3 → Nat :=
  let arg0 : BitVec 32 := BitVec.ofNat 32 (i 0).val
  let c12_i32_49 : BitVec 32 := 12#32
  let v111 : BitVec 32 := Scalar.addi arg0 c12_i32_49
  let c1_i32_50 : BitVec 32 := 1#32
  let v112 : BitVec 32 := Scalar.subi v111 c1_i32_50
  let c12_i32_51 : BitVec 32 := 12#32
  let v113 : BitVec 32 := Scalar.remsi v112 c12_i32_51
  let c0_i32_53 : BitVec 32 := 0#32
  let c0_i32_54 : BitVec 32 := 0#32
  ![v113.toNat, 0, 0]
def k0_off6 (i : grid0.Coords) : Fin 2 → Nat :=
  let arg0 : BitVec 32 := BitVec.ofNat 32 (i 0).val
  let c12_i32_49 : BitVec 32 := 12#32
  let v111 : BitVec 32 := Scalar.addi arg0 c12_i32_49
  let c1_i32_50 : BitVec 32 := 1#32
  let v112 : BitVec 32 := Scalar.subi v111 c1_i32_50
  let c512_i32_52 : BitVec 32 := 512#32
  let v114 : BitVec 32 := Scalar.muli v112 c512_i32_52
  let c0_i32_55 : BitVec 32 := 0#32
  ![v114.toNat, 0]
def k0_off7 (i : grid0.Coords) : Fin 3 → Nat :=
  let arg0 : BitVec 32 := BitVec.ofNat 32 (i 0).val
  let c12_i32_56 : BitVec 32 := 12#32
  let v120 : BitVec 32 := Scalar.addi arg0 c12_i32_56
  let c1_i32_57 : BitVec 32 := 1#32
  let v121 : BitVec 32 := Scalar.subi v120 c1_i32_57
  let c12_i32_58 : BitVec 32 := 12#32
  let v122 : BitVec 32 := Scalar.remsi v121 c12_i32_58
  let c0_i32_60 : BitVec 32 := 0#32
  let c1024_i32_61 : BitVec 32 := 1024#32
  ![v122.toNat, 0, 1024]
def k0_off8 (i : grid0.Coords) : Fin 2 → Nat :=
  let arg0 : BitVec 32 := BitVec.ofNat 32 (i 0).val
  let c12_i32_56 : BitVec 32 := 12#32
  let v120 : BitVec 32 := Scalar.addi arg0 c12_i32_56
  let c1_i32_57 : BitVec 32 := 1#32
  let v121 : BitVec 32 := Scalar.subi v120 c1_i32_57
  let c512_i32_59 : BitVec 32 := 512#32
  let v123 : BitVec 32 := Scalar.muli v121 c512_i32_59
  let c1024_i32_62 : BitVec 32 := 1024#32
  ![v123.toNat, 1024]
def k0_off9 (i : grid0.Coords) : Fin 1 → Nat :=
  let arg0 : BitVec 32 := BitVec.ofNat 32 (i 0).val
  let c12_i32_2 : BitVec 32 := 12#32
  let v8 : BitVec 32 := Scalar.remsi arg0 c12_i32_2
  ![v8.toNat]
def k0_off10 (i : grid0.Coords) : Fin 3 → Nat :=
  let arg0 : BitVec 32 := BitVec.ofNat 32 (i 0).val
  let c12_i32_2 : BitVec 32 := 12#32
  let v8 : BitVec 32 := Scalar.remsi arg0 c12_i32_2
  let c0_i32_3 : BitVec 32 := 0#32
  let c0_i32_4 : BitVec 32 := 0#32
  ![v8.toNat, 0, 0]
def k0_off11 (i : grid0.Coords) : Fin 2 → Nat :=
  let arg0 : BitVec 32 := BitVec.ofNat 32 (i 0).val
  let c512_i32 : BitVec 32 := 512#32
  let v9 : BitVec 32 := Scalar.muli arg0 c512_i32
  let c0_i32_5 : BitVec 32 := 0#32
  ![v9.toNat, 0]
def k0_off12 (i : grid0.Coords) : Fin 3 → Nat :=
  let arg0 : BitVec 32 := BitVec.ofNat 32 (i 0).val
  let c12_i32_6 : BitVec 32 := 12#32
  let v15 : BitVec 32 := Scalar.remsi arg0 c12_i32_6
  let c0_i32_8 : BitVec 32 := 0#32
  let c1024_i32 : BitVec 32 := 1024#32
  ![v15.toNat, 0, 1024]
def k0_off13 (i : grid0.Coords) : Fin 2 → Nat :=
  let arg0 : BitVec 32 := BitVec.ofNat 32 (i 0).val
  let c512_i32_7 : BitVec 32 := 512#32
  let v16 : BitVec 32 := Scalar.muli arg0 c512_i32_7
  let c1024_i32_9 : BitVec 32 := 1024#32
  ![v16.toNat, 1024]
def k0_off14 (i : grid0.Coords) : Fin 3 → Nat :=
  let arg0 : BitVec 32 := BitVec.ofNat 32 (i 0).val
  let c12_i32_10 : BitVec 32 := 12#32
  let v22 : BitVec 32 := Scalar.remsi arg0 c12_i32_10
  let v23 : Index := Scalar.indexCast v22
  let c0 : Index := 0#32
  let c0_11 : Index := 0#32
  ![v23.toNat, 0, 0]
def k0_cond4 (i : grid0.Coords) : BitVec 1 :=
  let arg0 : BitVec 32 := BitVec.ofNat 32 (i 0).val
  let c31_i32 : BitVec 32 := 31#32
  let v108 : BitVec 1 := Scalar.cmpi .eq arg0 c31_i32
  let v109 : BitVec 32 := Scalar.extui v108
  let c0_i32_48 : BitVec 32 := 0#32
  let v110 : BitVec 1 := Scalar.cmpi .ne v109 c0_i32_48
  v110

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4x4096x2048 : Shape := ⟨3, ![4, 4096, 2048]⟩
abbrev S16x2048 : Shape := ⟨2, ![16, 2048]⟩
abbrev S16 : Shape := ⟨1, ![16]⟩
abbrev S4x4096x16 : Shape := ⟨3, ![4, 4096, 16]⟩
abbrev S1x1x16 : Shape := ⟨3, ![1, 1, 16]⟩
abbrev S4x4096x2 : Shape := ⟨3, ![4, 4096, 2]⟩
abbrev S_ : Shape := ⟨0, ![]⟩
abbrev S4x4096 : Shape := ⟨2, ![4, 4096]⟩
abbrev S4x4096x1 : Shape := ⟨3, ![4, 4096, 1]⟩
abbrev S16384 : Shape := ⟨1, ![16384]⟩
abbrev S16384x1 : Shape := ⟨2, ![16384, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16, .f32⟩
  | .hbm, ⟨3, _⟩ => ⟨S16x2048, .f32⟩
  | .hbm, ⟨4, _⟩ => ⟨S16, .f32⟩
  | .hbm, ⟨5, _⟩ => ⟨S4x4096x16, .f32⟩
  | .hbm, ⟨6, _⟩ => ⟨S1x1x16, .f32⟩
  | .hbm, ⟨7, _⟩ => ⟨S4x4096x16, .f32⟩
  | .hbm, ⟨8, _⟩ => ⟨S4x4096x16, .f32⟩
  | .hbm, ⟨9, _⟩ => ⟨S4x4096x2, .f32⟩
  | .hbm, ⟨10, _⟩ => ⟨S4x4096x2, .i32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x2, .f32⟩
  | .hbm, ⟨18, _⟩ => ⟨S4x4096x2, .f32⟩
  | .hbm, ⟨19, _⟩ => ⟨S4x4096x2, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x2, .f32⟩
  | .hbm, ⟨24, _⟩ => ⟨S4x4096x2, .f32⟩
  | .hbm, ⟨25, _⟩ => ⟨S4x4096x16, .f32⟩
  | .hbm, ⟨26, _⟩ => ⟨S1x1x16, .f32⟩
  | .hbm, ⟨27, _⟩ => ⟨S4x4096x16, .f32⟩
  | .hbm, ⟨28, _⟩ => ⟨S4x4096x16, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x16, .f32⟩
  | .hbm, ⟨36, _⟩ => ⟨S4x4096x16, .f32⟩
  | .hbm, ⟨37, _⟩ => ⟨S4x4096x16, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x16, .f32⟩
  | .hbm, ⟨42, _⟩ => ⟨S4x4096x16, .f32⟩
  | .hbm, ⟨43, _⟩ => ⟨S_, .f32⟩
  | .hbm, ⟨44, _⟩ => ⟨S16, .f32⟩
  | .hbm, ⟨45, _⟩ => ⟨S4x4096x1, .i32⟩
  | .hbm, ⟨46, _⟩ => ⟨S4x4096, .i32⟩
  | .hbm, ⟨47, _⟩ => ⟨S16384, .i32⟩
  | .hbm, ⟨48, _⟩ => ⟨S_, .i32⟩
  | .hbm, ⟨49, _⟩ => ⟨S16, .i32⟩
  | .hbm, ⟨50, _⟩ => ⟨S_, .i32⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .i32⟩
  | .hbm, ⟨61, _⟩ => ⟨S16384x1, .i32⟩
  | .hbm, ⟨62, _⟩ => ⟨S_, .i32⟩
  | .hbm, ⟨63, _⟩ => ⟨S16384, .i32⟩
  | .hbm, ⟨64, _⟩ => ⟨S16, .i32⟩
  | .hbm, ⟨65, _⟩ => ⟨S16, .f32⟩
  | .hbm, ⟨66, _⟩ => ⟨S16, .f32⟩
  | .hbm, ⟨67, _⟩ => ⟨S4x4096x1, .i32⟩
  | .hbm, ⟨68, _⟩ => ⟨S4x4096, .i32⟩
  | .hbm, ⟨69, _⟩ => ⟨S16384, .i32⟩
  | .hbm, ⟨70, _⟩ => ⟨S_, .i32⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S_, .i32⟩
  | .hbm, ⟨85, _⟩ => ⟨S16384, .i32⟩
  | .hbm, ⟨86, _⟩ => ⟨S16, .i32⟩
  | .hbm, ⟨87, _⟩ => ⟨S16, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S16, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .i1⟩
  | .hbm, ⟨107, _⟩ => ⟨S16, .f32⟩
  | .hbm, ⟨108, _⟩ => ⟨S16, .f32⟩
  | .hbm, ⟨109, _⟩ => ⟨S_, .f32⟩
  | .hbm, ⟨110, _⟩ => ⟨S16, .f32⟩
  | .hbm, ⟨111, _⟩ => ⟨S16, .f32⟩
  | .hbm, ⟨112, _⟩ => ⟨S_, .f32⟩
  | .hbm, ⟨113, _⟩ => ⟨S16, .f32⟩
  | .hbm, ⟨114, _⟩ => ⟨S_, .f32⟩
  | .hbm, ⟨115, _⟩ => ⟨S16, .f32⟩
  | .hbm, ⟨116, _⟩ => ⟨S16, .f32⟩
  | .hbm, ⟨117, _⟩ => ⟨S16, .f32⟩
  | .hbm, ⟨118, _⟩ => ⟨S16, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_c_6 : Ref sig .tc := ⟨.hbm, 50, rfl⟩
abbrev main_call0_v0 : Ref sig .tc := ⟨.hbm, 51, rfl⟩
abbrev main_call0_v1 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_c_11 : Ref sig .tc := ⟨.hbm, 72, rfl⟩
abbrev main_call1_v0 : Ref sig .tc := ⟨.hbm, 73, rfl⟩
abbrev main_call1_v1 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_cst_19 : Ref sig .tc := ⟨.hbm, 99, rfl⟩
abbrev main_v67 : Ref sig .tc := ⟨.hbm, 100, rfl⟩
abbrev main_cst_20 : Ref sig .tc := ⟨.hbm, 101, rfl⟩
abbrev main_v68 : Ref sig .tc := ⟨.hbm, 102, rfl⟩
abbrev main_cst_21 : Ref sig .tc := ⟨.hbm, 103, rfl⟩
abbrev main_v69 : Ref sig .tc := ⟨.hbm, 104, rfl⟩
abbrev main_cst_22 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_23 : Ref sig .tc := ⟨.hbm, 109, rfl⟩
abbrev main_v73 : Ref sig .tc := ⟨.hbm, 110, rfl⟩
abbrev main_v74 : Ref sig .tc := ⟨.hbm, 111, rfl⟩
abbrev main_cst_24 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_26 : Ref sig .tc := ⟨.hbm, 119, rfl⟩
abbrev main_v80 : Ref sig .tc := ⟨.hbm, 120, rfl⟩
abbrev main_cst_27 : Ref sig .tc := ⟨.hbm, 121, rfl⟩
abbrev main_v81 : Ref sig .tc := ⟨.hbm, 122, rfl⟩

abbrev nD : Nat := 1
abbrev τ : Topo := Topo.v7x

variable {F : FTy → Type} [FloatOps F]
-- ==== Proof.Names.lean ====
/-
  The kernel's own transfers, by name. The sixteen thousand rows of `x` are read in thirty-two blocks of 512 rows, each
  in two halves of 1024 columns; the buffer has twelve slots, each in the same two halves; each half of a slot has a
  semaphore cell of its own. This module names the halves (`srcA`, `srcB`, `slA`, `slB`, `smA`, `smB`) as the body
  slices them, puts the body's offsets at a grid point in closed form, and states what a transfer leaves in a slot:
  the block itself (`ringBuf`).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Ring
public import Idealize.ShloMosaic.Lib.Affine
public import Idealize.ShloMosaic.Lib.VecWindow
public import Idealize.ShloMosaic.Lib.ValueIdxCore
public import Idealize.ShloMosaic.Lib.Tactic

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ
abbrev 𝒱₀ : Variants := Variants.none

omit [FloatOps F] in
theorem entails_of_eq {P Q : sProp 𝕄} (e : P = Q) : P ⊢ Q := e ▸ .rfl

/-! ## Names -/

abbrev xM : Memref sig .tc .hbm S16384x2048 .f32 := Memref.whole main_v0
abbrev ringM : Memref sig .tc .vmem S12x512x2048 .f32 := Memref.whole cc0_scratch0
abbrev wtM : Memref sig .tc .vmem S2048x32 .f32 := Memref.whole cc0_scratch1

/-- Where half `A` (columns from 0) and half `B` (columns from 1024) of block `b` begin; -/
abbrev srcAOff (b : Fin 32) : Fin 2 → Nat := ![b.val * 512, 0]
abbrev srcBOff (b : Fin 32) : Fin 2 → Nat := ![b.val * 512, 1024]
/-- the same of slot `s` of the buffer, -/
abbrev slAOff (s : Fin 12) : Fin 3 → Nat := ![s.val, 0, 0]
abbrev slBOff (s : Fin 12) : Fin 3 → Nat := ![s.val, 0, 1024]
/-- and of its cell. -/
abbrev smOff (s : Fin 12) : Fin 1 → Nat := ![s.val]

theorem srcAOff_inb (b : Fin 32) : ∀ a, srcAOff b a + S512x1024.size a ≤ S16384x2048.size a := by
  have := b.isLt; intro a; fin_cases a
  · show b.val * 512 + 512 ≤ 16384; omega
  · show 0 + 1024 ≤ 2048; omega
theorem srcBOff_inb (b : Fin 32) : ∀ a, srcBOff b a + S512x1024.size a ≤ S16384x2048.size a := by
  have := b.isLt; intro a; fin_cases a
  · show b.val * 512 + 512 ≤ 16384; omega
  · show 1024 + 1024 ≤ 2048; omega
theorem slAOff_inb (s : Fin 12) : ∀ a, slAOff s a + S1x512x1024.size a ≤ S12x512x2048.size a := by
  have := s.isLt; intro a; fin_cases a
  · show s.val + 1 ≤ 12; omega
  · show 0 + 512 ≤ 512; omega
  · show 0 + 1024 ≤ 2048; omega
theorem slBOff_inb (s : Fin 12) : ∀ a, slBOff s a + S1x512x1024.size a ≤ S12x512x2048.size a := by
  have := s.isLt; intro a; fin_cases a
  · show s.val + 1 ≤ 12; omega
  · show 0 + 512 ≤ 512; omega
  · show 1024 + 1024 ≤ 2048; omega
theorem slOff_inb (s : Fin 12) : ∀ a, slAOff s a + S1x512x2048.size a ≤ S12x512x2048.size a := by
  have := s.isLt; intro a; fin_cases a
  · show s.val + 1 ≤ 12; omega
  · show 0 + 512 ≤ 512; omega
  · show 0 + 2048 ≤ 2048; omega
theorem smOff_inb (s : Fin 12) : ∀ a, smOff s a + S1.size a ≤ S12.size a := by
  have := s.isLt; intro a; fin_cases a; show s.val + 1 ≤ 12; omega

/-- The halves of block `b` of `x`. -/
def srcA (b : Fin 32) : Memref sig .tc .hbm S512x1024 .f32 :=
  xM.slice (Rect.unit (s := S16384x2048) (srcAOff b) S512x1024.size (srcAOff_inb b)) (fun _ => rfl)
def srcB (b : Fin 32) : Memref sig .tc .hbm S512x1024 .f32 :=
  xM.slice (Rect.unit (s := S16384x2048) (srcBOff b) S512x1024.size (srcBOff_inb b)) (fun _ => rfl)
/-- The halves of slot `s` of the buffer. -/
def slA (s : Fin 12) : Memref sig .tc .vmem S512x1024 .f32 :=
  (ringM.slice (Rect.unit (s := S12x512x2048) (slAOff s) S1x512x1024.size (slAOff_inb s)) (fun _ => rfl)).squeeze S512x1024 squeezes_S1x512x1024_S512x1024
def slB (s : Fin 12) : Memref sig .tc .vmem S512x1024 .f32 :=
  (ringM.slice (Rect.unit (s := S12x512x2048) (slBOff s) S1x512x1024.size (slBOff_inb s)) (fun _ => rfl)).squeeze S512x1024 squeezes_S1x512x1024_S512x1024
/-- Slot `s`, both halves. -/
def slW (s : Fin 12) : Memref sig .tc .vmem S1x512x2048 .f32 :=
  ringM.slice (Rect.unit (s := S12x512x2048) (slAOff s) S1x512x2048.size (slOff_inb s)) (fun _ => rfl)
/-- The cells of slot `s`. -/
def smA (s : Fin 12) : DmaSems sig S_ := (cc0_scratch2.slice (Rect.unit (s := S12) (smOff s) S1.size (smOff_inb s))).squeeze S_ squeezes_S1_S_
def smB (s : Fin 12) : DmaSems sig S_ := (cc0_scratch3.slice (Rect.unit (s := S12) (smOff s) S1.size (smOff_inb s))).squeeze S_ squeezes_S1_S_

instance (b : Fin 32) : ClosedOff (srcAOff b) := ⟨srcAOff b, rfl⟩
instance (b : Fin 32) : ClosedOff (srcBOff b) := ⟨srcBOff b, rfl⟩
instance (s : Fin 12) : ClosedOff (slAOff s) := ⟨slAOff s, rfl⟩
instance (s : Fin 12) : ClosedOff (slBOff s) := ⟨slBOff s, rfl⟩

/-! ## The body's offsets at a grid point -/

theorem coord_lt (i : grid0.Coords) : (i 0).val < 32 := (i 0).isLt

section Chain
open Affine
variable (i : grid0.Coords)

theorem isInt_i : IsInt (BitVec.ofNat 32 (i 0).val) (i 0).val := by
  have := coord_lt i; exact ofNat (i 0).val ⟨rfl, by omega⟩
theorem isInt_rem : IsInt (Scalar.remsi (BitVec.ofNat 32 (i 0).val) 12#32) ((i 0).val % 12 : Nat) := by
  have := coord_lt i
  exact remsi (isInt_i i) (ofNat (e := 12) 12 ⟨rfl, by decide⟩) ⟨by omega, by omega, by omega⟩
theorem isInt_blk : IsInt (Scalar.muli (BitVec.ofNat 32 (i 0).val) 512#32) ((i 0).val * 512 : Nat) := by
  have := coord_lt i
  exact muli (isInt_i i) (ofNat (e := 512) 512 ⟨rfl, by decide⟩) ⟨by push_cast; omega, by omega, by omega⟩
theorem isInt_add : IsInt (Scalar.subi (Scalar.addi (BitVec.ofNat 32 (i 0).val) 12#32) 1#32) ((i 0).val + 11 : Nat) := by
  have := coord_lt i
  have h : IsInt (Scalar.addi (BitVec.ofNat 32 (i 0).val) 12#32) ((i 0).val + 12 : Nat) :=
    addi (isInt_i i) (ofNat (e := 12) 12 ⟨rfl, by decide⟩) ⟨by push_cast; omega, by omega, by omega⟩
  exact subi h (ofNat (e := 1) 1 ⟨rfl, by decide⟩) ⟨by push_cast; omega, by omega, by omega⟩
theorem isInt_addRem : IsInt (Scalar.remsi (Scalar.subi (Scalar.addi (BitVec.ofNat 32 (i 0).val) 12#32) 1#32) 12#32) (((i 0).val + 11) % 12 : Nat) := by
  have := coord_lt i
  exact remsi (isInt_add i) (ofNat (e := 12) 12 ⟨rfl, by decide⟩) ⟨by omega, by omega, by omega⟩
theorem isInt_addBlk : IsInt (Scalar.muli (Scalar.subi (Scalar.addi (BitVec.ofNat 32 (i 0).val) 12#32) 1#32) 512#32) (((i 0).val + 11) * 512 : Nat) := by
  have := coord_lt i
  exact muli (isInt_add i) (ofNat (e := 512) 512 ⟨rfl, by decide⟩) ⟨by push_cast; omega, by omega, by omega⟩

theorem off9_eq : k0_off9 i = smOff (Ring.sl 12 (i 0).val) := vec_cons (isInt_rem i) (by simp [Ring.sl, Fin.ofNat]) vec_nil
theorem off10_eq : k0_off10 i = slAOff (Ring.sl 12 (i 0).val) := vec_cons (isInt_rem i) (by simp [Ring.sl, Fin.ofNat]) rfl
theorem off12_eq : k0_off12 i = slBOff (Ring.sl 12 (i 0).val) := vec_cons (isInt_rem i) (by simp [Ring.sl, Fin.ofNat]) rfl
theorem off14_eq : k0_off14 i = slAOff (Ring.sl 12 (i 0).val) := vec_cons (indexCast (isInt_rem i)) (by simp [Ring.sl, Fin.ofNat]) rfl
theorem off11_eq : k0_off11 i = srcAOff (Ring.bk 32 (i 0).val) := vec_cons (isInt_blk i) (by rw [Ring.bk_val (coord_lt i)]) rfl
theorem off13_eq : k0_off13 i = srcBOff (Ring.bk 32 (i 0).val) := vec_cons (isInt_blk i) (by rw [Ring.bk_val (coord_lt i)]) rfl
theorem off4_eq : k0_off4 i = smOff (Ring.sl 12 ((i 0).val + 11)) := vec_cons (isInt_addRem i) (by simp [Ring.sl, Fin.ofNat]) vec_nil
theorem off5_eq : k0_off5 i = slAOff (Ring.sl 12 ((i 0).val + 11)) := vec_cons (isInt_addRem i) (by simp [Ring.sl, Fin.ofNat]) rfl
theorem off7_eq : k0_off7 i = slBOff (Ring.sl 12 ((i 0).val + 11)) := vec_cons (isInt_addRem i) (by simp [Ring.sl, Fin.ofNat]) rfl
theorem off6_eq (h : (i 0).val + 11 < 32) : k0_off6 i = srcAOff (Ring.bk 32 ((i 0).val + 11)) := vec_cons (isInt_addBlk i) (by rw [Ring.bk_val h]) rfl
theorem off8_eq (h : (i 0).val + 11 < 32) : k0_off8 i = srcBOff (Ring.bk 32 ((i 0).val + 11)) := vec_cons (isInt_addBlk i) (by rw [Ring.bk_val h]) rfl

instance : ClosedOff (k0_off14 i) := ⟨slAOff (Ring.sl 12 (i 0).val), off14_eq i⟩
end Chain

/-! ## The body's slices are these names -/

section Canon

theorem smA_congr {off : Fin 1 → Nat} {s : Fin 12} (e : off = smOff s) (hh) :
    (cc0_scratch2.slice (Rect.unit (s := S12) off S1.size hh)).squeeze S_ squeezes_S1_S_ = smA s :=
  congrArg (fun A : DmaSems sig S1 => A.squeeze S_ squeezes_S1_S_) (SemArray.slice_unit_congr _ e _ _)
theorem smB_congr {off : Fin 1 → Nat} {s : Fin 12} (e : off = smOff s) (hh) :
    (cc0_scratch3.slice (Rect.unit (s := S12) off S1.size hh)).squeeze S_ squeezes_S1_S_ = smB s :=
  congrArg (fun A : DmaSems sig S1 => A.squeeze S_ squeezes_S1_S_) (SemArray.slice_unit_congr _ e _ _)
theorem slA_congr {off : Fin 3 → Nat} {s : Fin 12} (e : off = slAOff s) (hh hs) :
    (ringM.slice (Rect.unit (s := S12x512x2048) off S1x512x1024.size hh) hs).squeeze S512x1024 squeezes_S1x512x1024_S512x1024 = slA s :=
  congrArg (fun M : Memref sig .tc .vmem S1x512x1024 .f32 => M.squeeze S512x1024 squeezes_S1x512x1024_S512x1024) (Memref.slice_unit_congr _ e _ _ _ _)
theorem slB_congr {off : Fin 3 → Nat} {s : Fin 12} (e : off = slBOff s) (hh hs) :
    (ringM.slice (Rect.unit (s := S12x512x2048) off S1x512x1024.size hh) hs).squeeze S512x1024 squeezes_S1x512x1024_S512x1024 = slB s :=
  congrArg (fun M : Memref sig .tc .vmem S1x512x1024 .f32 => M.squeeze S512x1024 squeezes_S1x512x1024_S512x1024) (Memref.slice_unit_congr _ e _ _ _ _)
theorem srcA_congr {off : Fin 2 → Nat} {b : Fin 32} (e : off = srcAOff b) (hh hs) :
    xM.slice (Rect.unit (s := S16384x2048) off S512x1024.size hh) hs = srcA b := Memref.slice_unit_congr _ e _ _ _ (fun _ => rfl)
theorem srcB_congr {off : Fin 2 → Nat} {b : Fin 32} (e : off = srcBOff b) (hh hs) :
    xM.slice (Rect.unit (s := S16384x2048) off S512x1024.size hh) hs = srcB b := Memref.slice_unit_congr _ e _ _ _ (fun _ => rfl)

variable (i : grid0.Coords)

/-- The block waited at a point, its slot and its cells; -/
@[sl_canon] theorem smAW (hh) : (cc0_scratch2.slice (Rect.unit (s := S12) (k0_off9 i) S1.size hh)).squeeze S_ squeezes_S1_S_ = smA (Ring.sl 12 (i 0).val) := smA_congr (off9_eq i) _
@[sl_canon] theorem smBW (hh) : (cc0_scratch3.slice (Rect.unit (s := S12) (k0_off9 i) S1.size hh)).squeeze S_ squeezes_S1_S_ = smB (Ring.sl 12 (i 0).val) := smB_congr (off9_eq i) _
@[sl_canon] theorem slAW (hh hs) : (ringM.slice (Rect.unit (s := S12x512x2048) (k0_off10 i) S1x512x1024.size hh) hs).squeeze S512x1024 squeezes_S1x512x1024_S512x1024 = slA (Ring.sl 12 (i 0).val) := slA_congr (off10_eq i) _ _
@[sl_canon] theorem slBW (hh hs) : (ringM.slice (Rect.unit (s := S12x512x2048) (k0_off12 i) S1x512x1024.size hh) hs).squeeze S512x1024 squeezes_S1x512x1024_S512x1024 = slB (Ring.sl 12 (i 0).val) := slB_congr (off12_eq i) _ _
@[sl_canon] theorem srcAW (hh hs) : xM.slice (Rect.unit (s := S16384x2048) (k0_off11 i) S512x1024.size hh) hs = srcA (Ring.bk 32 (i 0).val) := srcA_congr (off11_eq i) _ _
@[sl_canon] theorem srcBW (hh hs) : xM.slice (Rect.unit (s := S16384x2048) (k0_off13 i) S512x1024.size hh) hs = srcB (Ring.bk 32 (i 0).val) := srcB_congr (off13_eq i) _ _
/-- the block started at a point, eleven ahead. -/
@[sl_canon] theorem smAI (hh) : (cc0_scratch2.slice (Rect.unit (s := S12) (k0_off4 i) S1.size hh)).squeeze S_ squeezes_S1_S_ = smA (Ring.sl 12 ((i 0).val + 11)) := smA_congr (off4_eq i) _
@[sl_canon] theorem smBI (hh) : (cc0_scratch3.slice (Rect.unit (s := S12) (k0_off4 i) S1.size hh)).squeeze S_ squeezes_S1_S_ = smB (Ring.sl 12 ((i 0).val + 11)) := smB_congr (off4_eq i) _
@[sl_canon] theorem slAI (hh hs) : (ringM.slice (Rect.unit (s := S12x512x2048) (k0_off5 i) S1x512x1024.size hh) hs).squeeze S512x1024 squeezes_S1x512x1024_S512x1024 = slA (Ring.sl 12 ((i 0).val + 11)) := slA_congr (off5_eq i) _ _
@[sl_canon] theorem slBI (hh hs) : (ringM.slice (Rect.unit (s := S12x512x2048) (k0_off7 i) S1x512x1024.size hh) hs).squeeze S512x1024 squeezes_S1x512x1024_S512x1024 = slB (Ring.sl 12 ((i 0).val + 11)) := slB_congr (off7_eq i) _ _
@[sl_canon] theorem srcAI (h : (i 0).val + 11 < 32) (hh hs) : xM.slice (Rect.unit (s := S16384x2048) (k0_off6 i) S512x1024.size hh) hs = srcA (Ring.bk 32 ((i 0).val + 11)) := srcA_congr (off6_eq i h) _ _
@[sl_canon] theorem srcBI (h : (i 0).val + 11 < 32) (hh hs) : xM.slice (Rect.unit (s := S16384x2048) (k0_off8 i) S512x1024.size hh) hs = srcB (Ring.bk 32 ((i 0).val + 11)) := srcB_congr (off8_eq i h) _ _

/-- The first eleven blocks, started at point 0. -/
@[sl_canon] theorem smAL0 (hh) : (cc0_scratch2.slice (Rect.unit (s := S12) (k0_off1 0#32) S1.size hh)).squeeze S_ squeezes_S1_S_ = smA 0 := smA_congr (by decide) _
@[sl_canon] theorem smBL0 (hh) : (cc0_scratch3.slice (Rect.unit (s := S12) (k0_off1 0#32) S1.size hh)).squeeze S_ squeezes_S1_S_ = smB 0 := smB_congr (by decide) _
@[sl_canon] theorem slAL0 (hh hs) : (ringM.slice (Rect.unit (s := S12x512x2048) (k0_off2 0#32) S1x512x1024.size hh) hs).squeeze S512x1024 squeezes_S1x512x1024_S512x1024 = slA 0 := slA_congr (by decide) _ _
@[sl_canon] theorem slBL0 (hh hs) : (ringM.slice (Rect.unit (s := S12x512x2048) (k0_off3 0#32) S1x512x1024.size hh) hs).squeeze S512x1024 squeezes_S1x512x1024_S512x1024 = slB 0 := slB_congr (by decide) _ _
@[sl_canon] theorem srcAL0 (hh hs) : xM.slice (Rect.unit (s := S16384x2048) ![0, 0] S512x1024.size hh) hs = srcA 0 := srcA_congr (by decide) _ _
@[sl_canon] theorem srcBL0 (hh hs) : xM.slice (Rect.unit (s := S16384x2048) ![0, 1024] S512x1024.size hh) hs = srcB 0 := srcB_congr (by decide) _ _
@[sl_canon] theorem smAL1 (hh) : (cc0_scratch2.slice (Rect.unit (s := S12) (k0_off1 1#32) S1.size hh)).squeeze S_ squeezes_S1_S_ = smA 1 := smA_congr (by decide) _
@[sl_canon] theorem smBL1 (hh) : (cc0_scratch3.slice (Rect.unit (s := S12) (k0_off1 1#32) S1.size hh)).squeeze S_ squeezes_S1_S_ = smB 1 := smB_congr (by decide) _
@[sl_canon] theorem slAL1 (hh hs) : (ringM.slice (Rect.unit (s := S12x512x2048) (k0_off2 1#32) S1x512x1024.size hh) hs).squeeze S512x1024 squeezes_S1x512x1024_S512x1024 = slA 1 := slA_congr (by decide) _ _
@[sl_canon] theorem slBL1 (hh hs) : (ringM.slice (Rect.unit (s := S12x512x2048) (k0_off3 1#32) S1x512x1024.size hh) hs).squeeze S512x1024 squeezes_S1x512x1024_S512x1024 = slB 1 := slB_congr (by decide) _ _
@[sl_canon] theorem srcAL1 (hh hs) : xM.slice (Rect.unit (s := S16384x2048) ![512, 0] S512x1024.size hh) hs = srcA 1 := srcA_congr (by decide) _ _
@[sl_canon] theorem srcBL1 (hh hs) : xM.slice (Rect.unit (s := S16384x2048) ![512, 1024] S512x1024.size hh) hs = srcB 1 := srcB_congr (by decide) _ _
@[sl_canon] theorem smAL2 (hh) : (cc0_scratch2.slice (Rect.unit (s := S12) (k0_off1 2#32) S1.size hh)).squeeze S_ squeezes_S1_S_ = smA 2 := smA_congr (by decide) _
@[sl_canon] theorem smBL2 (hh) : (cc0_scratch3.slice (Rect.unit (s := S12) (k0_off1 2#32) S1.size hh)).squeeze S_ squeezes_S1_S_ = smB 2 := smB_congr (by decide) _
@[sl_canon] theorem slAL2 (hh hs) : (ringM.slice (Rect.unit (s := S12x512x2048) (k0_off2 2#32) S1x512x1024.size hh) hs).squeeze S512x1024 squeezes_S1x512x1024_S512x1024 = slA 2 := slA_congr (by decide) _ _
@[sl_canon] theorem slBL2 (hh hs) : (ringM.slice (Rect.unit (s := S12x512x2048) (k0_off3 2#32) S1x512x1024.size hh) hs).squeeze S512x1024 squeezes_S1x512x1024_S512x1024 = slB 2 := slB_congr (by decide) _ _
@[sl_canon] theorem srcAL2 (hh hs) : xM.slice (Rect.unit (s := S16384x2048) ![1024, 0] S512x1024.size hh) hs = srcA 2 := srcA_congr (by decide) _ _
@[sl_canon] theorem srcBL2 (hh hs) : xM.slice (Rect.unit (s := S16384x2048) ![1024, 1024] S512x1024.size hh) hs = srcB 2 := srcB_congr (by decide) _ _
@[sl_canon] theorem smAL3 (hh) : (cc0_scratch2.slice (Rect.unit (s := S12) (k0_off1 3#32) S1.size hh)).squeeze S_ squeezes_S1_S_ = smA 3 := smA_congr (by decide) _
@[sl_canon] theorem smBL3 (hh) : (cc0_scratch3.slice (Rect.unit (s := S12) (k0_off1 3#32) S1.size hh)).squeeze S_ squeezes_S1_S_ = smB 3 := smB_congr (by decide) _
@[sl_canon] theorem slAL3 (hh hs) : (ringM.slice (Rect.unit (s := S12x512x2048) (k0_off2 3#32) S1x512x1024.size hh) hs).squeeze S512x1024 squeezes_S1x512x1024_S512x1024 = slA 3 := slA_congr (by decide) _ _
@[sl_canon] theorem slBL3 (hh hs) : (ringM.slice (Rect.unit (s := S12x512x2048) (k0_off3 3#32) S1x512x1024.size hh) hs).squeeze S512x1024 squeezes_S1x512x1024_S512x1024 = slB 3 := slB_congr (by decide) _ _
@[sl_canon] theorem srcAL3 (hh hs) : xM.slice (Rect.unit (s := S16384x2048) ![1536, 0] S512x1024.size hh) hs = srcA 3 := srcA_congr (by decide) _ _
@[sl_canon] theorem srcBL3 (hh hs) : xM.slice (Rect.unit (s := S16384x2048) ![1536, 1024] S512x1024.size hh) hs = srcB 3 := srcB_congr (by decide) _ _
@[sl_canon] theorem smAL4 (hh) : (cc0_scratch2.slice (Rect.unit (s := S12) (k0_off1 4#32) S1.size hh)).squeeze S_ squeezes_S1_S_ = smA 4 := smA_congr (by decide) _
@[sl_canon] theorem smBL4 (hh) : (cc0_scratch3.slice (Rect.unit (s := S12) (k0_off1 4#32) S1.size hh)).squeeze S_ squeezes_S1_S_ = smB 4 := smB_congr (by decide) _
@[sl_canon] theorem slAL4 (hh hs) : (ringM.slice (Rect.unit (s := S12x512x2048) (k0_off2 4#32) S1x512x1024.size hh) hs).squeeze S512x1024 squeezes_S1x512x1024_S512x1024 = slA 4 := slA_congr (by decide) _ _
@[sl_canon] theorem slBL4 (hh hs) : (ringM.slice (Rect.unit (s := S12x512x2048) (k0_off3 4#32) S1x512x1024.size hh) hs).squeeze S512x1024 squeezes_S1x512x1024_S512x1024 = slB 4 := slB_congr (by decide) _ _
@[sl_canon] theorem srcAL4 (hh hs) : xM.slice (Rect.unit (s := S16384x2048) ![2048, 0] S512x1024.size hh) hs = srcA 4 := srcA_congr (by decide) _ _
@[sl_canon] theorem srcBL4 (hh hs) : xM.slice (Rect.unit (s := S16384x2048) ![2048, 1024] S512x1024.size hh) hs = srcB 4 := srcB_congr (by decide) _ _
@[sl_canon] theorem smAL5 (hh) : (cc0_scratch2.slice (Rect.unit (s := S12) (k0_off1 5#32) S1.size hh)).squeeze S_ squeezes_S1_S_ = smA 5 := smA_congr (by decide) _
@[sl_canon] theorem smBL5 (hh) : (cc0_scratch3.slice (Rect.unit (s := S12) (k0_off1 5#32) S1.size hh)).squeeze S_ squeezes_S1_S_ = smB 5 := smB_congr (by decide) _
@[sl_canon] theorem slAL5 (hh hs) : (ringM.slice (Rect.unit (s := S12x512x2048) (k0_off2 5#32) S1x512x1024.size hh) hs).squeeze S512x1024 squeezes_S1x512x1024_S512x1024 = slA 5 := slA_congr (by decide) _ _
@[sl_canon] theorem slBL5 (hh hs) : (ringM.slice (Rect.unit (s := S12x512x2048) (k0_off3 5#32) S1x512x1024.size hh) hs).squeeze S512x1024 squeezes_S1x512x1024_S512x1024 = slB 5 := slB_congr (by decide) _ _
@[sl_canon] theorem srcAL5 (hh hs) : xM.slice (Rect.unit (s := S16384x2048) ![2560, 0] S512x1024.size hh) hs = srcA 5 := srcA_congr (by decide) _ _
@[sl_canon] theorem srcBL5 (hh hs) : xM.slice (Rect.unit (s := S16384x2048) ![2560, 1024] S512x1024.size hh) hs = srcB 5 := srcB_congr (by decide) _ _
@[sl_canon] theorem smAL6 (hh) : (cc0_scratch2.slice (Rect.unit (s := S12) (k0_off1 6#32) S1.size hh)).squeeze S_ squeezes_S1_S_ = smA 6 := smA_congr (by decide) _
@[sl_canon] theorem smBL6 (hh) : (cc0_scratch3.slice (Rect.unit (s := S12) (k0_off1 6#32) S1.size hh)).squeeze S_ squeezes_S1_S_ = smB 6 := smB_congr (by decide) _
@[sl_canon] theorem slAL6 (hh hs) : (ringM.slice (Rect.unit (s := S12x512x2048) (k0_off2 6#32) S1x512x1024.size hh) hs).squeeze S512x1024 squeezes_S1x512x1024_S512x1024 = slA 6 := slA_congr (by decide) _ _
@[sl_canon] theorem slBL6 (hh hs) : (ringM.slice (Rect.unit (s := S12x512x2048) (k0_off3 6#32) S1x512x1024.size hh) hs).squeeze S512x1024 squeezes_S1x512x1024_S512x1024 = slB 6 := slB_congr (by decide) _ _
@[sl_canon] theorem srcAL6 (hh hs) : xM.slice (Rect.unit (s := S16384x2048) ![3072, 0] S512x1024.size hh) hs = srcA 6 := srcA_congr (by decide) _ _
@[sl_canon] theorem srcBL6 (hh hs) : xM.slice (Rect.unit (s := S16384x2048) ![3072, 1024] S512x1024.size hh) hs = srcB 6 := srcB_congr (by decide) _ _
@[sl_canon] theorem smAL7 (hh) : (cc0_scratch2.slice (Rect.unit (s := S12) (k0_off1 7#32) S1.size hh)).squeeze S_ squeezes_S1_S_ = smA 7 := smA_congr (by decide) _
@[sl_canon] theorem smBL7 (hh) : (cc0_scratch3.slice (Rect.unit (s := S12) (k0_off1 7#32) S1.size hh)).squeeze S_ squeezes_S1_S_ = smB 7 := smB_congr (by decide) _
@[sl_canon] theorem slAL7 (hh hs) : (ringM.slice (Rect.unit (s := S12x512x2048) (k0_off2 7#32) S1x512x1024.size hh) hs).squeeze S512x1024 squeezes_S1x512x1024_S512x1024 = slA 7 := slA_congr (by decide) _ _
@[sl_canon] theorem slBL7 (hh hs) : (ringM.slice (Rect.unit (s := S12x512x2048) (k0_off3 7#32) S1x512x1024.size hh) hs).squeeze S512x1024 squeezes_S1x512x1024_S512x1024 = slB 7 := slB_congr (by decide) _ _
@[sl_canon] theorem srcAL7 (hh hs) : xM.slice (Rect.unit (s := S16384x2048) ![3584, 0] S512x1024.size hh) hs = srcA 7 := srcA_congr (by decide) _ _
@[sl_canon] theorem srcBL7 (hh hs) : xM.slice (Rect.unit (s := S16384x2048) ![3584, 1024] S512x1024.size hh) hs = srcB 7 := srcB_congr (by decide) _ _
@[sl_canon] theorem smAL8 (hh) : (cc0_scratch2.slice (Rect.unit (s := S12) (k0_off1 8#32) S1.size hh)).squeeze S_ squeezes_S1_S_ = smA 8 := smA_congr (by decide) _
@[sl_canon] theorem smBL8 (hh) : (cc0_scratch3.slice (Rect.unit (s := S12) (k0_off1 8#32) S1.size hh)).squeeze S_ squeezes_S1_S_ = smB 8 := smB_congr (by decide) _
@[sl_canon] theorem slAL8 (hh hs) : (ringM.slice (Rect.unit (s := S12x512x2048) (k0_off2 8#32) S1x512x1024.size hh) hs).squeeze S512x1024 squeezes_S1x512x1024_S512x1024 = slA 8 := slA_congr (by decide) _ _
@[sl_canon] theorem slBL8 (hh hs) : (ringM.slice (Rect.unit (s := S12x512x2048) (k0_off3 8#32) S1x512x1024.size hh) hs).squeeze S512x1024 squeezes_S1x512x1024_S512x1024 = slB 8 := slB_congr (by decide) _ _
@[sl_canon] theorem srcAL8 (hh hs) : xM.slice (Rect.unit (s := S16384x2048) ![4096, 0] S512x1024.size hh) hs = srcA 8 := srcA_congr (by decide) _ _
@[sl_canon] theorem srcBL8 (hh hs) : xM.slice (Rect.unit (s := S16384x2048) ![4096, 1024] S512x1024.size hh) hs = srcB 8 := srcB_congr (by decide) _ _
@[sl_canon] theorem smAL9 (hh) : (cc0_scratch2.slice (Rect.unit (s := S12) (k0_off1 9#32) S1.size hh)).squeeze S_ squeezes_S1_S_ = smA 9 := smA_congr (by decide) _
@[sl_canon] theorem smBL9 (hh) : (cc0_scratch3.slice (Rect.unit (s := S12) (k0_off1 9#32) S1.size hh)).squeeze S_ squeezes_S1_S_ = smB 9 := smB_congr (by decide) _
@[sl_canon] theorem slAL9 (hh hs) : (ringM.slice (Rect.unit (s := S12x512x2048) (k0_off2 9#32) S1x512x1024.size hh) hs).squeeze S512x1024 squeezes_S1x512x1024_S512x1024 = slA 9 := slA_congr (by decide) _ _
@[sl_canon] theorem slBL9 (hh hs) : (ringM.slice (Rect.unit (s := S12x512x2048) (k0_off3 9#32) S1x512x1024.size hh) hs).squeeze S512x1024 squeezes_S1x512x1024_S512x1024 = slB 9 := slB_congr (by decide) _ _
@[sl_canon] theorem srcAL9 (hh hs) : xM.slice (Rect.unit (s := S16384x2048) ![4608, 0] S512x1024.size hh) hs = srcA 9 := srcA_congr (by decide) _ _
@[sl_canon] theorem srcBL9 (hh hs) : xM.slice (Rect.unit (s := S16384x2048) ![4608, 1024] S512x1024.size hh) hs = srcB 9 := srcB_congr (by decide) _ _
@[sl_canon] theorem smAL10 (hh) : (cc0_scratch2.slice (Rect.unit (s := S12) (k0_off1 10#32) S1.size hh)).squeeze S_ squeezes_S1_S_ = smA 10 := smA_congr (by decide) _
@[sl_canon] theorem smBL10 (hh) : (cc0_scratch3.slice (Rect.unit (s := S12) (k0_off1 10#32) S1.size hh)).squeeze S_ squeezes_S1_S_ = smB 10 := smB_congr (by decide) _
@[sl_canon] theorem slAL10 (hh hs) : (ringM.slice (Rect.unit (s := S12x512x2048) (k0_off2 10#32) S1x512x1024.size hh) hs).squeeze S512x1024 squeezes_S1x512x1024_S512x1024 = slA 10 := slA_congr (by decide) _ _
@[sl_canon] theorem slBL10 (hh hs) : (ringM.slice (Rect.unit (s := S12x512x2048) (k0_off3 10#32) S1x512x1024.size hh) hs).squeeze S512x1024 squeezes_S1x512x1024_S512x1024 = slB 10 := slB_congr (by decide) _ _
@[sl_canon] theorem srcAL10 (hh hs) : xM.slice (Rect.unit (s := S16384x2048) ![5120, 0] S512x1024.size hh) hs = srcA 10 := srcA_congr (by decide) _ _
@[sl_canon] theorem srcBL10 (hh hs) : xM.slice (Rect.unit (s := S16384x2048) ![5120, 1024] S512x1024.size hh) hs = srcB 10 := srcB_congr (by decide) _ _

end Canon

/-! ## The pieces a point holds -/

section Pieces
variable (c : Dev nD) (X : Buf (Elt F) (xM.view.loc (c : Thread nD τ)))

/-- Block `b` of `x`, laid out as a slot (at any slot number). -/
def ringBuf (b : Fin 32) : Buf (Elt F) (ringM.view.loc (c : Thread nD τ)) := fun i : S12x512x2048.Idx =>
  X (ValueIdx.ix2 (n0 := 16384) (n1 := 2048) ⟨b.val * 512 + (i 1).val, by have := b.isLt; have h : (i 1).val < 512 := (i 1).isLt; omega⟩ ⟨(i 2).val, (i 2).isLt⟩)

abbrev cellA (s : Fin 12) : sProp 𝕄 := semVal ((c : Thread nD τ), SemLoc.dma (smA s).sem) 0
abbrev cellB (s : Fin 12) : sProp 𝕄 := semVal ((c : Thread nD τ), SemLoc.dma (smB s).sem) 0
abbrev slAP (s : Fin 12) (f : Buf (Elt F) ((slA s).view.loc (c : Thread nD τ))) : sProp 𝕄 :=
  (slA s).view.loc (c : Thread nD τ) ↦[(slA s).view.set]{fullShare} f
abbrev slBP (s : Fin 12) (f : Buf (Elt F) ((slB s).view.loc (c : Thread nD τ))) : sProp 𝕄 :=
  (slB s).view.loc (c : Thread nD τ) ↦[(slB s).view.set]{fullShare} f
abbrev homeA (b : Fin 32) : sProp 𝕄 := (srcA b).view.loc (c : Thread nD τ) ↦[(srcA b).view.set]{fullShare} X
abbrev homeB (b : Fin 32) : sProp 𝕄 := (srcB b).view.loc (c : Thread nD τ) ↦[(srcB b).view.set]{fullShare} X
/-- What a half's transfer leaves over `f`, as the transfer writes it. -/
abbrev landA (s : Fin 12) (b : Fin 32) (f : Buf (Elt F) ((slA s).view.loc (c : Thread nD τ))) : Buf (Elt F) ((slA s).view.loc (c : Thread nD τ)) :=
  (slA s).view.writes (Elt F) f [⟨Rect.whole S512x1024, ReadAs.same.apply ((srcA b).view.read (Elt F) X)⟩]
abbrev landB (s : Fin 12) (b : Fin 32) (f : Buf (Elt F) ((slB s).view.loc (c : Thread nD τ))) : Buf (Elt F) ((slB s).view.loc (c : Thread nD τ)) :=
  (slB s).view.writes (Elt F) f [⟨Rect.whole S512x1024, ReadAs.same.apply ((srcB b).view.read (Elt F) X)⟩]
/-- A half in flight into slot `s` from block `b`: it delivers the block in the slot and the block's half back. -/
abbrev flA (s : Fin 12) (b : Fin 32) : sProp 𝕄 :=
  Transfers.Flight countersEmb (c : Thread nD τ) (SemLoc.dma (smA s).sem) () 65536 iprop(slAP c s (ringBuf c X b) ∗ homeA c X b)
abbrev flB (s : Fin 12) (b : Fin 32) : sProp 𝕄 :=
  Transfers.Flight countersEmb (c : Thread nD τ) (SemLoc.dma (smB s).sem) () 65536 iprop(slBP c s (ringBuf c X b) ∗ homeB c X b)

end Pieces

/-! ## What a transfer leaves is the block -/

section Land
variable (c : Dev nD) (X : Buf (Elt F) (xM.view.loc (c : Thread nD τ)))

private theorem sq_idx (x : S512x1024.Idx) :
    Shape.reshapeEquiv squeezes_S1x512x1024_S512x1024.numel_eq x = (Fin.cons ⟨0, Nat.one_pos⟩ x : S1x512x1024.Idx) :=
  Shape.reshapeEquiv_cons_one (d := ![512, 1024]) _ x

/-- The element of the buffer under element `x` of a half of slot `s`. -/
abbrev idxA (s : Fin 12) (x : S512x1024.Idx) : S12x512x2048.Idx :=
  (Rect.unit (s := S12x512x2048) (slAOff s) S1x512x1024.size (slAOff_inb s)).emb (Shape.reshapeEquiv squeezes_S1x512x1024_S512x1024.numel_eq x)
abbrev idxB (s : Fin 12) (x : S512x1024.Idx) : S12x512x2048.Idx :=
  (Rect.unit (s := S12x512x2048) (slBOff s) S1x512x1024.size (slBOff_inb s)).emb (Shape.reshapeEquiv squeezes_S1x512x1024_S512x1024.numel_eq x)

private theorem embA1 (s : Fin 12) (x : S512x1024.Idx) : (idxA s x 1).val = (x 0).val := by
  unfold idxA; rw [sq_idx]; show 0 + 1 * (x 0).val = _; omega
private theorem embA2 (s : Fin 12) (x : S512x1024.Idx) : (idxA s x 2).val = (x 1).val := by
  unfold idxA; rw [sq_idx]; show 0 + 1 * (x 1).val = _; omega
private theorem embB1 (s : Fin 12) (x : S512x1024.Idx) : (idxB s x 1).val = (x 0).val := by
  unfold idxB; rw [sq_idx]; show 0 + 1 * (x 0).val = _; omega
private theorem embB2 (s : Fin 12) (x : S512x1024.Idx) : (idxB s x 2).val = 1024 + (x 1).val := by
  unfold idxB; rw [sq_idx]; show 1024 + 1 * (x 1).val = _; omega

theorem landA_read (s : Fin 12) (b : Fin 32) (f) :
    (slA s).view.read (Elt F) (landA c X s b f) = (slA s).view.read (Elt F) (ringBuf c X b) := by
  rw [View.read_writes_whole]
  funext x
  show X ((srcA b).view.emb x) = ringBuf c X b (idxA s x)
  unfold ringBuf
  refine congrArg X (funext fun a => Fin.ext ?_)
  fin_cases a
  · show b.val * 512 + 1 * (x 0).val = b.val * 512 + (idxA s x 1).val
    rw [embA1]; omega
  · show 0 + 1 * (x 1).val = (idxA s x 2).val
    rw [embA2]; omega
theorem landB_read (s : Fin 12) (b : Fin 32) (f) :
    (slB s).view.read (Elt F) (landB c X s b f) = (slB s).view.read (Elt F) (ringBuf c X b) := by
  rw [View.read_writes_whole]
  funext x
  show X ((srcB b).view.emb x) = ringBuf c X b (idxB s x)
  unfold ringBuf
  refine congrArg X (funext fun a => Fin.ext ?_)
  fin_cases a
  · show b.val * 512 + 1 * (x 0).val = b.val * 512 + (idxB s x 1).val
    rw [embB1]; omega
  · show 1024 + 1 * (x 1).val = (idxB s x 2).val
    rw [embB2]; omega

theorem landA_eq (s : Fin 12) (b : Fin 32) (f) : (slAP c s (landA c X s b f) : sProp 𝕄) = slAP c s (ringBuf c X b) := by
  unfold slAP
  rw [pointsTo_rep (c : Thread nD τ) (slA s) (landA c X s b f), pointsTo_rep (c : Thread nD τ) (slA s) (ringBuf c X b), landA_read]
theorem landB_eq (s : Fin 12) (b : Fin 32) (f) : (slBP c s (landB c X s b f) : sProp 𝕄) = slBP c s (ringBuf c X b) := by
  unfold slBP
  rw [pointsTo_rep (c : Thread nD τ) (slB s) (landB c X s b f), pointsTo_rep (c : Thread nD τ) (slB s) (ringBuf c X b), landB_read]

/-- A transfer as the run states it (the slot written over what it held) is a flight of the block. -/
theorem flA_of (s : Fin 12) (b : Fin 32) (f) :
    (Transfers.Flight countersEmb (c : Thread nD τ) (SemLoc.dma (smA s).sem) () 65536 iprop(slAP c s (landA c X s b f) ∗ homeA c X b) : sProp 𝕄)
      = flA c X s b := by unfold flA; rw [landA_eq]
theorem flB_of (s : Fin 12) (b : Fin 32) (f) :
    (Transfers.Flight countersEmb (c : Thread nD τ) (SemLoc.dma (smB s).sem) () 65536 iprop(slBP c s (landB c X s b f) ∗ homeB c X b) : sProp 𝕄)
      = flB c X s b := by unfold flB; rw [landB_eq]

/-! ## The halves of a slot, apart and together -/

/-- The elements of slot `s` and of its halves. -/
abbrev GW (s : Fin 12) : Finset S12x512x2048.Idx := (Rect.unit (s := S12x512x2048) (slAOff s) S1x512x2048.size (slOff_inb s)).set
abbrev GA (s : Fin 12) : Finset S12x512x2048.Idx := (Rect.unit (s := S12x512x2048) (slAOff s) S1x512x1024.size (slAOff_inb s)).set
abbrev GB (s : Fin 12) : Finset S12x512x2048.Idx := (Rect.unit (s := S12x512x2048) (slBOff s) S1x512x1024.size (slBOff_inb s)).set
theorem slW_set (s : Fin 12) : (slW s).view.set = GW s := View.set_slice_whole _ _
theorem slA_set (s : Fin 12) : (slA s).view.set = GA s := (View.set_reshape _ _).trans (View.set_slice_whole _ _)
theorem slB_set (s : Fin 12) : (slB s).view.set = GB s := (View.set_reshape _ _).trans (View.set_slice_whole _ _)

theorem mem_slW (s : Fin 12) (y : S12x512x2048.Idx) : y ∈ GW s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem mem_slA (s : Fin 12) (y : S12x512x2048.Idx) : y ∈ GA s ↔ (y 0).val = s.val ∧ (y 2).val < 1024 := by
  rw [Rect.mem_set_unit]
  have h1 : (y 1).val < 512 := (y 1).isLt
  constructor
  · intro H
    have a0 : s.val ≤ (y 0).val ∧ (y 0).val < s.val + 1 := H 0
    have a2 : 0 ≤ (y 2).val ∧ (y 2).val < 0 + 1024 := H 2
    omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem mem_slB (s : Fin 12) (y : S12x512x2048.Idx) : y ∈ GB s ↔ (y 0).val = s.val ∧ 1024 ≤ (y 2).val := by
  rw [Rect.mem_set_unit]
  have h1 : (y 1).val < 512 := (y 1).isLt
  have h2 : (y 2).val < 2048 := (y 2).isLt
  constructor
  · intro H
    have a0 : s.val ≤ (y 0).val ∧ (y 0).val < s.val + 1 := H 0
    have a2 : 1024 ≤ (y 2).val ∧ (y 2).val < 1024 + 1024 := H 2
    omega
  · intro H i; fin_cases i
    · show s.val ≤ (y 0).val ∧ (y 0).val < s.val + 1; omega
    · show 0 ≤ (y 1).val ∧ (y 1).val < 0 + 512; omega
    · show 1024 ≤ (y 2).val ∧ (y 2).val < 1024 + 1024; omega

theorem GW_union (s : Fin 12) : GW s = GA s ∪ GB s := by
  ext y; rw [Finset.mem_union, mem_slW, mem_slA, mem_slB]; omega
theorem GAB_disjoint (s : Fin 12) : Disjoint (GA s) (GB s) := by
  rw [Finset.disjoint_left]; intro y h h'; rw [mem_slA] at h; rw [mem_slB] at h'; omega

abbrev slWP (s : Fin 12) (f : Buf (Elt F) ((slW s).view.loc (c : Thread nD τ))) : sProp 𝕄 :=
  (slW s).view.loc (c : Thread nD τ) ↦[(slW s).view.set]{fullShare} f

theorem slW_eq (s : Fin 12) (f : Buf (Elt F) (ringM.view.loc (c : Thread nD τ))) :
    (slWP c s f : sProp 𝕄) ⊣⊢ iprop(slAP c s f ∗ slBP c s f) := by
  have h := pointsTo_union (Ix := Unit) (Name := ℕ) (U := UD sig nD τ) (Lvl := ℕ) (ℓ := ringM.view.loc (c : Thread nD τ)) (q := fullShare) (f := f) (GAB_disjoint s)
  rw [← GW_union] at h
  rw [show (slWP c s f : sProp 𝕄) = (ringM.view.loc (c : Thread nD τ) ↦[GW s]{fullShare} f) from congrArg (fun S => (_ ↦[S]{fullShare} f : sProp 𝕄)) (slW_set s),
    show (slAP c s f : sProp 𝕄) = (ringM.view.loc (c : Thread nD τ) ↦[GA s]{fullShare} f) from congrArg (fun S => (_ ↦[S]{fullShare} f : sProp 𝕄)) (slA_set s),
    show (slBP c s f : sProp 𝕄) = (ringM.view.loc (c : Thread nD τ) ↦[GB s]{fullShare} f) from congrArg (fun S => (_ ↦[S]{fullShare} f : sProp 𝕄)) (slB_set s)]
  exact h

/-- Slot `s` free: its cells at zero, its halves at anything. -/
def free (s : Fin 12) : sProp 𝕄 :=
  iprop(cellA c s ∗ cellB c s ∗ (∃ f, slAP c s f) ∗ ∃ f, slBP c s f)
/-- Block `b` at home. -/
def home (b : Fin 32) : sProp 𝕄 := iprop(homeA c X b ∗ homeB c X b)
/-- Block `b` in flight into slot `s`. -/
def flight (s : Fin 12) (b : Fin 32) : sProp 𝕄 := iprop(flA c X s b ∗ flB c X s b)

end Land

end Cert.Router.KernelIdeal

end
-- ==== Proof.Fill.lean ====
/-
  The first part of a grid point: the look-ahead transfers are started, the two halves of this point's block are
  waited for, and the block and the transposed weights are read.
-/
module

public import proofs.«01_k».proof.Proof.Names

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Fill

variable (c : Dev nD) (X : Buf (Elt F) (xM.view.loc (c : Thread nD τ))) (i : grid0.Coords)
  (arg2 : Memref sig .tc .vmem S16x2048 .f32) (harg2 : arg2.IsWhole)
  (arg3 : Memref sig .tc .vmem S16x2048 .f32) (harg3 : arg3.IsWhole)
  (arg4 : Memref sig .tc .vmem S1x16 .f32) (harg4 : arg4.IsWhole)
  (arg5 : Memref sig .tc .vmem S1x16 .f32) (harg5 : arg5.IsWhole)
  (arg6 : Memref sig .tc .vmem S16x512 .f32) (harg6 : arg6.IsWhole)
  (arg7 : Memref sig .tc .vmem S2x512 .i32) (harg7 : arg7.IsWhole)
  (arg8 : Memref sig .tc .vmem S2x512 .f32) (harg8 : arg8.IsWhole)
  (arg9 : Memref sig .tc .vmem S16x512 .f32) (harg9 : arg9.IsWhole)
  (arg10 : Memref sig .tc .vmem S16x1 .f32) (harg10 : arg10.IsWhole)
  (arg11 : Memref sig .tc .vmem S16x1 .f32) (harg11 : arg11.IsWhole)
  (arg12 : Memref sig .tc .vmem S1x1 .f32) (harg12 : arg12.IsWhole)
  (arg13 : Memref sig .tc .vmem S1x1 .f32) (harg13 : arg13.IsWhole)

abbrev part6G := k0_part6 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3

/-- Block `b` of `x` as the point reads it. -/
def xAt (b : Fin 32) : Vec F S1x512x2048 .f32 := fun j =>
  X (ValueIdx.ix2 (n0 := 16384) (n1 := 2048) ⟨b.val * 512 + (j 1).val, by have := b.isLt; have h : (j 1).val < 512 := (j 1).isLt; omega⟩ ⟨(j 2).val, (j 2).isLt⟩)

theorem xAt_of (b : Fin 32) (s : Fin 12) (off : Fin 3 → ℕ) (e : off = slAOff s) (h) :
    ringM.view.readAt (Elt F) (Rect.unit (s := S12x512x2048) off S1x512x2048.size h).toLoadRect (ringBuf c X b) = xAt c X b := by
  subst e
  funext j
  show ringBuf c X b ((Rect.unit (s := S12x512x2048) (slAOff s) S1x512x2048.size (slOff_inb s)).emb j) = _
  unfold ringBuf xAt
  refine congrArg X (funext fun a => Fin.ext ?_)
  fin_cases a
  · show b.val * 512 + (0 + 1 * (j 1).val) = b.val * 512 + (j 1).val; omega
  · show 0 + 1 * (j 2).val = (j 2).val; omega
theorem xAt_eq (b : Fin 32) (h) :
    ringM.view.readAt (Elt F) (Rect.unit (s := S12x512x2048) (k0_off14 i) S1x512x2048.size h).toLoadRect (ringBuf c X b) = xAt c X b :=
  xAt_of c X b _ _ (off14_eq i) h

abbrev rd15 (wt : Buf (Elt F) (wtM.view.loc (c : Thread nD τ))) := wtM.view.readAt (Elt F) (Rect.unit (s := S2048x32) ![0, 0] S2048x32.size inb_S2048x32_S2048x32_0_0).toLoadRect wt
abbrev rd4 (g4 : Buf (Elt F) (arg4.view.loc (c : Thread nD τ))) := arg4.view.readAt (Elt F) (Rect.unit (s := S1x16) ![0, 0] S1x16.size inb_S1x16_S1x16_0_0).toLoadRect g4
abbrev rdW (a : Memref sig .tc .vmem S16x2048 .f32) (g : Buf (Elt F) (a.view.loc (c : Thread nD τ))) := a.view.readAt (Elt F) (Rect.unit (s := S16x2048) ![0, 0] S16x2048.size inb_S16x2048_S16x2048_0_0).toLoadRect g

/-- A staging buffer whole. -/
abbrev own {s : Shape} {d : EltTy} (a : Memref sig .tc .vmem s d) (f : Buf (Elt F) (a.view.loc (c : Thread nD τ))) : sProp 𝕄 :=
  a.view.loc (c : Thread nD τ) ↦[a.view.set]{fullShare} f

theorem fill_mid (c1 : ¬ k0_cond1 i = 1#1) (c2 : k0_cond2 i = 1#1) (h11 : (i 0).val + 11 < 32)
    (wt) (g4) (W) (Q) :
    iprop((flight c X (Ring.sl 12 (i 0).val) (Ring.bk 32 (i 0).val) ∗ free c (Ring.sl 12 ((i 0).val + 11)) ∗ home c X (Ring.bk 32 ((i 0).val + 11))
      ∗ own c wtM wt ∗ own c arg4 g4 ∗ owes (c : Thread nD τ) 0 W)
      ∗ ((flight c X (Ring.sl 12 ((i 0).val + 11)) (Ring.bk 32 ((i 0).val + 11)) ∗ free c (Ring.sl 12 (i 0).val) ∗ home c X (Ring.bk 32 (i 0).val) ∗ own c wtM wt ∗ own c arg4 g4 ∗ (∃ W', owes (c : Thread nD τ) 0 W')) -∗
            Q ⟨BitVec.ofNat 32 (i 0).val, k0_pay4 (xAt c X (Ring.bk 32 (i 0).val)) (rd15 c wt), k0_pay5 (xAt c X (Ring.bk 32 (i 0).val)) (rd15 c wt), rd4 c arg4 g4⟩))
      ⊢ wp frame (wpE (defs₀ (F := F)) 𝒱₀ (c : Thread nD τ) none) Set.univ (part6G (F := F) i arg2 harg2 arg3 harg3 arg4 harg4 arg5 harg5 arg6 harg6 arg7 harg7 arg8 harg8 arg9 harg9 arg10 harg10 arg11 harg11 arg12 harg12 arg13 harg13) Q := by
  unfold flight free home
  iintro ⟨⟨⟨HFA, HFB⟩, ⟨HcA, HcB, ⟨%fA, HsA⟩, ⟨%fB, HsB⟩⟩, ⟨HhA, HhB⟩, Hwt, H4, HW⟩, Hk⟩
  dsimp only [part6G]
  sl_unfold [k0_part6]
  sl_exec
  ihave HS := (slW_eq c (Ring.sl 12 (i 0).val) (ringBuf c X (Ring.bk 32 (i 0).val))).2 $$ [HFA_dst HFB_dst]
  · isplitl [HFA_dst]; · iexact HFA_dst
    iexact HFB_dst
  sl_exec
  sl_step
  ihave HS' := (slW_eq c (Ring.sl 12 (i 0).val) (ringBuf c X (Ring.bk 32 (i 0).val))).1 $$ HS
  icases HS' with ⟨HSA, HSB⟩
  rw [xAt_eq c X i]
  iapply Hk
  isplitl [HcA HcB]
  · isplitl [HcA]
    · irw [← flA_of c X (Ring.sl 12 ((i 0).val + 11)) (Ring.bk 32 ((i 0).val + 11)) fA]; iexact HcA
    · irw [← flB_of c X (Ring.sl 12 ((i 0).val + 11)) (Ring.bk 32 ((i 0).val + 11)) fB]; iexact HcB
  isplitl [HFA HFB HSA HSB]
  · isplitl [HFA]; · iexact HFA
    isplitl [HFB]; · iexact HFB
    isplitl [HSA]; · iexists _; iexact HSA
    iexists _; iexact HSB
  isplitl [HFA_src HFB_src]
  · isplitl [HFA_src]; · iexact HFA_src
    iexact HFB_src
  isplitl [Hwt]; · iexact Hwt
  isplitl [H4]; · iexact H4
  iexists _; iexact HW

theorem fill_tail (c1 : ¬ k0_cond1 i = 1#1) (c2 : ¬ k0_cond2 i = 1#1)
    (wt) (g4) (W) (Q) :
    iprop((flight c X (Ring.sl 12 (i 0).val) (Ring.bk 32 (i 0).val) ∗ own c wtM wt ∗ own c arg4 g4 ∗ owes (c : Thread nD τ) 0 W)
      ∗ ((free c (Ring.sl 12 (i 0).val) ∗ home c X (Ring.bk 32 (i 0).val) ∗ own c wtM wt ∗ own c arg4 g4 ∗ (∃ W', owes (c : Thread nD τ) 0 W')) -∗
            Q ⟨BitVec.ofNat 32 (i 0).val, k0_pay4 (xAt c X (Ring.bk 32 (i 0).val)) (rd15 c wt), k0_pay5 (xAt c X (Ring.bk 32 (i 0).val)) (rd15 c wt), rd4 c arg4 g4⟩))
      ⊢ wp frame (wpE (defs₀ (F := F)) 𝒱₀ (c : Thread nD τ) none) Set.univ (part6G (F := F) i arg2 harg2 arg3 harg3 arg4 harg4 arg5 harg5 arg6 harg6 arg7 harg7 arg8 harg8 arg9 harg9 arg10 harg10 arg11 harg11 arg12 harg12 arg13 harg13) Q := by
  unfold flight free home
  iintro ⟨⟨⟨HFA, HFB⟩, Hwt, H4, HW⟩, Hk⟩
  dsimp only [part6G]
  sl_unfold [k0_part6]
  sl_exec
  ihave HS := (slW_eq c (Ring.sl 12 (i 0).val) (ringBuf c X (Ring.bk 32 (i 0).val))).2 $$ [HFA_dst HFB_dst]
  · isplitl [HFA_dst]; · iexact HFA_dst
    iexact HFB_dst
  sl_exec
  sl_step
  ihave HS' := (slW_eq c (Ring.sl 12 (i 0).val) (ringBuf c X (Ring.bk 32 (i 0).val))).1 $$ HS
  icases HS' with ⟨HSA, HSB⟩
  rw [xAt_eq c X i]
  iapply Hk
  isplitl [HFA HFB HSA HSB]
  · isplitl [HFA]; · iexact HFA
    isplitl [HFB]; · iexact HFB
    isplitl [HSA]; · iexists _; iexact HSA
    iexists _; iexact HSB
  isplitl [HFA_src HFB_src]
  · isplitl [HFA_src]; · iexact HFA_src
    iexact HFB_src
  isplitl [Hwt]; · iexact Hwt
  isplitl [H4]; · iexact H4
  iexists _; iexact HW

section First
variable {i} (h0 : (i 0).val = 0)
include h0
theorem sl_first : Ring.sl 12 (i 0).val = 0 := by rw [h0]; rfl
theorem bk_first : Ring.bk 32 (i 0).val = 0 := by rw [h0]; rfl
theorem sl_first11 : Ring.sl 12 ((i 0).val + 11) = 11 := by rw [h0]; rfl
theorem bk_first11 : Ring.bk 32 ((i 0).val + 11) = 11 := by rw [h0]; rfl
end First

attribute [local sl_canon] sl_first bk_first sl_first11 bk_first11 in
set_option maxHeartbeats 4000000 in
theorem fill_first (h0 : (i 0).val = 0) (c1 : k0_cond1 i = 1#1) (c2 : k0_cond2 i = 1#1) (h11 : (i 0).val + 11 < 32)
    (g2) (g3) (wt) (g4) (W) (Q) :
    iprop((free c 0 ∗ home c X 0 ∗ free c 1 ∗ home c X 1 ∗ free c 2 ∗ home c X 2 ∗ free c 3 ∗ home c X 3 ∗ free c 4 ∗ home c X 4 ∗ free c 5 ∗ home c X 5 ∗ free c 6 ∗ home c X 6 ∗ free c 7 ∗ home c X 7 ∗ free c 8 ∗ home c X 8 ∗ free c 9 ∗ home c X 9 ∗ free c 10 ∗ home c X 10 ∗ free c 11 ∗ home c X 11
      ∗ own c arg2 g2 ∗ own c arg3 g3 ∗ own c wtM wt ∗ own c arg4 g4 ∗ owes (c : Thread nD τ) 0 W)
      ∗ ((flight c X 1 1 ∗ flight c X 2 2 ∗ flight c X 3 3 ∗ flight c X 4 4 ∗ flight c X 5 5 ∗ flight c X 6 6 ∗ flight c X 7 7 ∗ flight c X 8 8 ∗ flight c X 9 9 ∗ flight c X 10 10 ∗ flight c X 11 11 ∗ free c 0 ∗ home c X 0 ∗ own c arg2 g2 ∗ own c arg3 g3
        ∗ (∃ wt', ⌜rd15 c wt' = k0_pay3 (rdW c arg2 g2) (rdW c arg3 g3)⌝ ∗ own c wtM wt') ∗ own c arg4 g4 ∗ (∃ W', owes (c : Thread nD τ) 0 W')) -∗
            Q ⟨BitVec.ofNat 32 (i 0).val, k0_pay4 (xAt c X 0) (k0_pay3 (rdW c arg2 g2) (rdW c arg3 g3)), k0_pay5 (xAt c X 0) (k0_pay3 (rdW c arg2 g2) (rdW c arg3 g3)), rd4 c arg4 g4⟩))
      ⊢ wp frame (wpE (defs₀ (F := F)) 𝒱₀ (c : Thread nD τ) none) Set.univ (part6G (F := F) i arg2 harg2 arg3 harg3 arg4 harg4 arg5 harg5 arg6 harg6 arg7 harg7 arg8 harg8 arg9 harg9 arg10 harg10 arg11 harg11 arg12 harg12 arg13 harg13) Q := by
  unfold flight free home
  iintro ⟨⟨⟨HA0, HB0, ⟨%fA0, HsA0⟩, ⟨%fB0, HsB0⟩⟩, ⟨HhA0, HhB0⟩, ⟨HA1, HB1, ⟨%fA1, HsA1⟩, ⟨%fB1, HsB1⟩⟩, ⟨HhA1, HhB1⟩, ⟨HA2, HB2, ⟨%fA2, HsA2⟩, ⟨%fB2, HsB2⟩⟩, ⟨HhA2, HhB2⟩, ⟨HA3, HB3, ⟨%fA3, HsA3⟩, ⟨%fB3, HsB3⟩⟩, ⟨HhA3, HhB3⟩, ⟨HA4, HB4, ⟨%fA4, HsA4⟩, ⟨%fB4, HsB4⟩⟩, ⟨HhA4, HhB4⟩, ⟨HA5, HB5, ⟨%fA5, HsA5⟩, ⟨%fB5, HsB5⟩⟩, ⟨HhA5, HhB5⟩, ⟨HA6, HB6, ⟨%fA6, HsA6⟩, ⟨%fB6, HsB6⟩⟩, ⟨HhA6, HhB6⟩, ⟨HA7, HB7, ⟨%fA7, HsA7⟩, ⟨%fB7, HsB7⟩⟩, ⟨HhA7, HhB7⟩, ⟨HA8, HB8, ⟨%fA8, HsA8⟩, ⟨%fB8, HsB8⟩⟩, ⟨HhA8, HhB8⟩, ⟨HA9, HB9, ⟨%fA9, HsA9⟩, ⟨%fB9, HsB9⟩⟩, ⟨HhA9, HhB9⟩, ⟨HA10, HB10, ⟨%fA10, HsA10⟩, ⟨%fB10, HsB10⟩⟩, ⟨HhA10, HhB10⟩, ⟨HA11, HB11, ⟨%fA11, HsA11⟩, ⟨%fB11, HsB11⟩⟩, ⟨HhA11, HhB11⟩, H2, H3, Hwt, H4, HW⟩, Hk⟩
  dsimp only [part6G]
  sl_unfold [k0_part6]
  sl_exec
  ihave HS := (slW_eq c (Ring.sl 12 (i 0).val) (ringBuf c X 0)).2 $$ [HsA0 HsB0]
  · irw [sl_first h0]
    isplitl [HsA0]
    · irw [← landA_eq c X 0 0 fA0]; iexact HsA0
    · irw [← landB_eq c X 0 0 fB0]; iexact HsB0
  sl_exec
  sl_step
  ihave HS' := (show (slWP c (Ring.sl 12 (i 0).val) (ringBuf c X 0) : sProp 𝕄) ⊢ iprop(slAP c 0 (ringBuf c X 0) ∗ slBP c 0 (ringBuf c X 0)) from by
    rw [sl_first h0]; exact (slW_eq c 0 _).1) $$ HS
  icases HS' with ⟨HSA, HSB⟩
  rw [xAt_eq c X i]
  have e26 : fill_first.sl.v26 c arg2 arg3 g2 g3 = k0_pay3 (rdW c arg2 g2) (rdW c arg3 g3) := by
    unfold fill_first.sl.v26; exact View.readCov_full _ _ _ _ _
  rw [e26]
  iapply Hk
  isplitl [HA1 HB1]
  · isplitl [HA1]
    · irw [← flA_of c X 1 1 fA1]; iexact HA1
    · irw [← flB_of c X 1 1 fB1]; iexact HB1
  isplitl [HA2 HB2]
  · isplitl [HA2]
    · irw [← flA_of c X 2 2 fA2]; iexact HA2
    · irw [← flB_of c X 2 2 fB2]; iexact HB2
  isplitl [HA3 HB3]
  · isplitl [HA3]
    · irw [← flA_of c X 3 3 fA3]; iexact HA3
    · irw [← flB_of c X 3 3 fB3]; iexact HB3
  isplitl [HA4 HB4]
  · isplitl [HA4]
    · irw [← flA_of c X 4 4 fA4]; iexact HA4
    · irw [← flB_of c X 4 4 fB4]; iexact HB4
  isplitl [HA5 HB5]
  · isplitl [HA5]
    · irw [← flA_of c X 5 5 fA5]; iexact HA5
    · irw [← flB_of c X 5 5 fB5]; iexact HB5
  isplitl [HA6 HB6]
  · isplitl [HA6]
    · irw [← flA_of c X 6 6 fA6]; iexact HA6
    · irw [← flB_of c X 6 6 fB6]; iexact HB6
  isplitl [HA7 HB7]
  · isplitl [HA7]
    · irw [← flA_of c X 7 7 fA7]; iexact HA7
    · irw [← flB_of c X 7 7 fB7]; iexact HB7
  isplitl [HA8 HB8]
  · isplitl [HA8]
    · irw [← flA_of c X 8 8 fA8]; iexact HA8
    · irw [← flB_of c X 8 8 fB8]; iexact HB8
  isplitl [HA9 HB9]
  · isplitl [HA9]
    · irw [← flA_of c X 9 9 fA9]; iexact HA9
    · irw [← flB_of c X 9 9 fB9]; iexact HB9
  isplitl [HA10 HB10]
  · isplitl [HA10]
    · irw [← flA_of c X 10 10 fA10]; iexact HA10
    · irw [← flB_of c X 10 10 fB10]; iexact HB10
  isplitl [HA11 HB11]
  · isplitl [HA11]
    · irw [← flA_of c X 11 11 fA11]; iexact HA11
    · irw [← flB_of c X 11 11 fB11]; iexact HB11
  isplitl [HA0 HB0 HSA HSB]
  · isplitl [HA0]; · iexact HA0
    isplitl [HB0]; · iexact HB0
    isplitl [HSA]; · iexists _; iexact HSA
    iexists _; iexact HSB
  isplitl [HhA0 HhB0]
  · isplitl [HhA0]; · iexact HhA0
    iexact HhB0
  isplitl [H2]; · iexact H2
  isplitl [H3]; · iexact H3
  isplitl [Hwt]
  · iexists _
    isplitr
    rotate_left
    · iexact Hwt
    · ipureintro; exact View.readAt_writes_full _ _ _ _ _ _
  isplitl [H4]; · iexact H4
  iexists _; iexact HW

end Fill

end Cert.Router.KernelIdeal

end
-- ==== Proof.Rest.lean ====
/-
  The rest of a grid point, once its block is read: the logits, the two experts of a row, the gates, and the two sums
  kept over the rows; at the last point the two losses.
-/
module

public import proofs.«01_k».proof.Proof.Fill

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Rest

variable (c : Dev nD) (i : grid0.Coords)
  (arg2 : Memref sig .tc .vmem S16x2048 .f32) (harg2 : arg2.IsWhole)
  (arg3 : Memref sig .tc .vmem S16x2048 .f32) (harg3 : arg3.IsWhole)
  (arg4 : Memref sig .tc .vmem S1x16 .f32) (harg4 : arg4.IsWhole)
  (arg5 : Memref sig .tc .vmem S1x16 .f32) (harg5 : arg5.IsWhole)
  (arg6 : Memref sig .tc .vmem S16x512 .f32) (harg6 : arg6.IsWhole)
  (arg7 : Memref sig .tc .vmem S2x512 .i32) (harg7 : arg7.IsWhole)
  (arg8 : Memref sig .tc .vmem S2x512 .f32) (harg8 : arg8.IsWhole)
  (arg9 : Memref sig .tc .vmem S16x512 .f32) (harg9 : arg9.IsWhole)
  (arg10 : Memref sig .tc .vmem S16x1 .f32) (harg10 : arg10.IsWhole)
  (arg11 : Memref sig .tc .vmem S16x1 .f32) (harg11 : arg11.IsWhole)
  (arg12 : Memref sig .tc .vmem S1x1 .f32) (harg12 : arg12.IsWhole)
  (arg13 : Memref sig .tc .vmem S1x1 .f32) (harg13 : arg13.IsWhole)

/-- A staging buffer that reads as `v`. -/
abbrev hv {s : Shape} {d : EltTy} (a : Memref sig .tc .vmem s d) (v : s.Idx → Elt F d) : sProp 𝕄 := owns (c : Thread nD τ) a fullShare v

variable (v28 : FVec F S32x512 .f32) (v29 : FVec F S16x512 .f32) (v30 : Vec F S1x16 .f32)

theorem part7_run (b5 : S1x16.Idx → Elt F .f32) (Q) :
    iprop((hv c arg5 b5 ∗ (∃ v, hv c arg6 v) ∗ (∃ v, hv c arg7 v))
      ∗ ((hv c arg5 b5 ∗ hv c arg6 (k0_pay6 v29 v30) ∗ hv c arg7 (k0_pay13 v29 v30)) -∗
          Q ⟨k0_pay7 v28 b5, iota .tc S16x512 32 [0] iota_S16x512_d0_w32, k0_pay9 v29 v30, k0_pay12 v29 v30, k0_pay14 v29 v30⟩))
      ⊢ wp frame (wpE (defs₀ (F := F)) 𝒱₀ (c : Thread nD τ) none) Set.univ (k0_part7 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3 v28 v29 v30) Q := by
  unfold hv owns
  iintro ⟨⟨⟨%f5, %e5, H5⟩, ⟨%v6, %f6, -, H6⟩, ⟨%v7, %f7, -, H7⟩⟩, Hk⟩
  sl_unfold [k0_part7]
  sl_exec
  sl_step
  rw [View.readAt_full, e5]
  unfold part7_run.sl.v42
  iapply Hk
  isplitl [H5]
  · iexists f5; isplitr; · ipureintro; exact e5
    iexact H5
  isplitl [H6]
  · iexists _; isplitr
    rotate_left
    · iexact H6
    · ipureintro; exact View.read_writes_full _ _ _ _ _
  · iexists _; isplitr
    rotate_left
    · iexact H7
    · ipureintro; exact View.read_writes_full _ _ _ _ _

variable (arg0 : BitVec 32) (v40 : FVec F S16x512 .f32) (v42 : IVec S16x512 32) (v50 v62 : IVec S1x512 32) (v72 : FVec F S2x512 .f32)

theorem part8_first (c3 : Scalar.cmpi .ne (Scalar.extui (Scalar.cmpi .eq arg0 0#32) : BitVec 32) 0#32 = 1#1) (Q) :
    iprop(((∃ v, hv c arg8 v) ∗ (∃ v, hv c arg9 v) ∗ (∃ v, hv c arg10 v) ∗ (∃ v, hv c arg11 v))
      ∗ ((hv c arg8 v72 ∗ hv c arg9 (k0_pay15 v40) ∗ hv c arg10 (k0_pay18 v42 v50 v62 k0_pay16) ∗ hv c arg11 (k0_pay19 v40 k0_pay17)) -∗
          Q (Scalar.extui (Scalar.cmpi .eq arg0 31#32))))
      ⊢ wp frame (wpE (defs₀ (F := F)) 𝒱₀ (c : Thread nD τ) none) Set.univ (k0_part8 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3 arg0 v40 v42 v50 v62 v72) Q := by
  unfold hv owns
  iintro ⟨⟨⟨%v8, %f8, -, H8⟩, ⟨%v9, %f9, -, H9⟩, ⟨%v10, %f10, -, H10⟩, ⟨%v11, %f11, -, H11⟩⟩, Hk⟩
  sl_unfold [k0_part8]
  sl_exec
  sl_step
  unfold part8_first.sl.v109 part8_first.sl.v108
  iapply Hk
  isplitl [H8]
  · iexists _; isplitr
    rotate_left
    · iexact H8
    · ipureintro; exact View.read_writes_full _ _ _ _ _
  isplitl [H9]
  · iexists _; isplitr
    rotate_left
    · iexact H9
    · ipureintro; exact View.read_writes_full _ _ _ _ _
  isplitl [H10]
  · iexists _; isplitr
    rotate_left
    · iexact H10
    · ipureintro; rw [View.read_writes_full]; unfold part8_first.sl.v100; exact congrArg _ (View.readCov_full _ _ _ _ _)
  · iexists _; isplitr
    rotate_left
    · iexact H11
    · ipureintro; rw [View.read_writes_full]; unfold part8_first.sl.v104; exact congrArg _ (View.readCov_full _ _ _ _ _)

theorem part8_next (c3 : ¬ Scalar.cmpi .ne (Scalar.extui (Scalar.cmpi .eq arg0 0#32) : BitVec 32) 0#32 = 1#1)
    (a10 a11 : S16x1.Idx → Elt F .f32) (Q) :
    iprop(((∃ v, hv c arg8 v) ∗ (∃ v, hv c arg9 v) ∗ hv c arg10 a10 ∗ hv c arg11 a11)
      ∗ ((hv c arg8 v72 ∗ hv c arg9 (k0_pay15 v40) ∗ hv c arg10 (k0_pay18 v42 v50 v62 a10) ∗ hv c arg11 (k0_pay19 v40 a11)) -∗
          Q (Scalar.extui (Scalar.cmpi .eq arg0 31#32))))
      ⊢ wp frame (wpE (defs₀ (F := F)) 𝒱₀ (c : Thread nD τ) none) Set.univ (k0_part8 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3 arg0 v40 v42 v50 v62 v72) Q := by
  unfold hv owns
  iintro ⟨⟨⟨%v8, %f8, -, H8⟩, ⟨%v9, %f9, -, H9⟩, ⟨%f10, %e10, H10⟩, ⟨%f11, %e11, H11⟩⟩, Hk⟩
  sl_unfold [k0_part8]
  sl_exec
  sl_step
  unfold part8_next.sl.v109 part8_next.sl.v108
  iapply Hk
  isplitl [H8]
  · iexists _; isplitr
    rotate_left
    · iexact H8
    · ipureintro; exact View.read_writes_full _ _ _ _ _
  isplitl [H9]
  · iexists _; isplitr
    rotate_left
    · iexact H9
    · ipureintro; exact View.read_writes_full _ _ _ _ _
  isplitl [H10]
  · iexists _; isplitr
    rotate_left
    · iexact H10
    · ipureintro; rw [View.read_writes_full, View.readAt_full, e10]
  · iexists _; isplitr
    rotate_left
    · iexact H11
    · ipureintro; rw [View.read_writes_full, View.readAt_full, e11]

/-- What follows the block's read, at the values the read hands on. -/
def restG : Prog (TpuEff nD τ sig (Elt F) Λ₀ .tc) PUnit := do
  let ⟨v40, v42, v50, v62, v72⟩ ← k0_part7 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3 v28 v29 v30
  let v109 ← k0_part8 (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3 arg0 v40 v42 v50 v62 v72
  if k0_h4 : k0_cond4 i = 1#1 then do
    let v111 : Vec F S16x1 .f32 ← Prog.lift (.load arg10 (Rect.unit (s := S16x1) ![0, 0] S16x1.size inb_S16x1_S16x1_0_0).toLoadRect (View.loadsAt_vmem h_S16x1))
    let v124 : Vec F S1x1 .f32 ← Prog.lift (.load arg12 (Rect.unit (s := S1x1) ![0, 0] S1x1.size inb_S1x1_S1x1_0_0).toLoadRect (View.loadsAt_vmem h_S1x1))
    Prog.lift (.store arg12 (Rect.unit (s := S1x1) ![0, 0] S1x1.size inb_S1x1_S1x1_0_0) (k0_pay1 v111) Finset.univ (View.stores_vmem_bits_univ h_S1x1 rfl) (.inl rfl))
    let v125 : Vec F S16x1 .f32 ← Prog.lift (.load arg11 (Rect.unit (s := S16x1) ![0, 0] S16x1.size inb_S16x1_S16x1_0_0).toLoadRect (View.loadsAt_vmem h_S16x1))
    let v145 : Vec F S1x1 .f32 ← Prog.lift (.load arg13 (Rect.unit (s := S1x1) ![0, 0] S1x1.size inb_S1x1_S1x1_0_0).toLoadRect (View.loadsAt_vmem h_S1x1))
    Prog.lift (.store arg13 (Rect.unit (s := S1x1) ![0, 0] S1x1.size inb_S1x1_S1x1_0_0) (k0_pay2 v125) Finset.univ (View.stores_vmem_bits_univ h_S1x1 rfl) (.inl rfl))
    pure ⟨⟩
  else do
    pure ⟨⟩
  pure ⟨⟩

theorem body_eq : cc0__body (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3
    = part6G (F := F) i arg2 harg2 arg3 harg3 arg4 harg4 arg5 harg5 arg6 harg6 arg7 harg7 arg8 harg8 arg9 harg9 arg10 harg10 arg11 harg11 arg12 harg12 arg13 harg13 >>= fun r => restG i arg2 harg2 arg3 harg3 arg4 harg4 arg5 harg5 arg6 harg6 arg7 harg7 arg8 harg8 arg9 harg9 arg10 harg10 arg11 harg11 arg12 harg12 arg13 harg13 r.2.1 r.2.2.1 r.2.2.2 r.1 := by
  rw [cc0__body_eq_skeleton]; rfl

/-- The sums after a point, from what they held. -/
abbrev cntStep (v29 : FVec F S16x512 .f32) (v30 : Vec F S1x16 .f32) (a : S16x1.Idx → Elt F .f32) : S16x1.Idx → Elt F .f32 :=
  k0_pay18 (iota .tc S16x512 32 [0] iota_S16x512_d0_w32) (k0_pay9 v29 v30) (k0_pay12 v29 v30) a
abbrev impStep (v28 : FVec F S32x512 .f32) (b5 : Vec F S1x16 .f32) (a : S16x1.Idx → Elt F .f32) : S16x1.Idx → Elt F .f32 :=
  k0_pay19 (k0_pay7 v28 b5) a

/-- The four blocks a point writes and the two sums. -/
abbrev wrote (b5 : Vec F S1x16 .f32) (a10 a11 : S16x1.Idx → Elt F .f32) : sProp 𝕄 :=
  iprop(hv c arg5 b5 ∗ hv c arg6 (k0_pay6 v29 v30) ∗ hv c arg7 (k0_pay13 v29 v30) ∗ hv c arg8 (k0_pay14 v29 v30)
    ∗ hv c arg9 (k0_pay15 (k0_pay7 v28 b5)) ∗ hv c arg10 a10 ∗ hv c arg11 a11)
abbrev outs : sProp 𝕄 := iprop((∃ v, hv (F := F) c arg6 v) ∗ (∃ v, hv (F := F) c arg7 v) ∗ (∃ v, hv (F := F) c arg8 v) ∗ (∃ v, hv (F := F) c arg9 v))

theorem rest_first (c3 : Scalar.cmpi .ne (Scalar.extui (Scalar.cmpi .eq arg0 0#32) : BitVec 32) 0#32 = 1#1) (c4 : ¬ k0_cond4 i = 1#1)
    (b5 : Vec F S1x16 .f32) (Q) :
    iprop((hv c arg5 b5 ∗ outs c arg6 arg7 arg8 arg9 ∗ (∃ v, hv c arg10 v) ∗ (∃ v, hv c arg11 v))
      ∗ (wrote c arg5 arg6 arg7 arg8 arg9 arg10 arg11 v28 v29 v30 b5 (cntStep v29 v30 k0_pay16) (impStep v28 b5 k0_pay17) -∗ Q ⟨⟩))
      ⊢ wp frame (wpE (defs₀ (F := F)) 𝒱₀ (c : Thread nD τ) none) Set.univ (restG (F := F) i arg2 harg2 arg3 harg3 arg4 harg4 arg5 harg5 arg6 harg6 arg7 harg7 arg8 harg8 arg9 harg9 arg10 harg10 arg11 harg11 arg12 harg12 arg13 harg13 v28 v29 v30 arg0) Q := by
  iintro ⟨⟨H5, ⟨H6, H7, H8, H9⟩, H10, H11⟩, Hk⟩
  unfold restG
  irw [wp_bind]
  iapply (part7_run c i arg2 harg2 arg3 harg3 arg4 harg4 arg5 harg5 arg6 harg6 arg7 harg7 arg8 harg8 arg9 harg9 arg10 harg10 arg11 harg11 arg12 harg12 arg13 harg13 v28 v29 v30 b5)
  isplitl [H5 H6 H7]
  · isplitl [H5]; · iexact H5
    isplitl [H6]; · iexact H6
    iexact H7
  iintro ⟨H5, H6, H7⟩
  irw [wp_bind]
  iapply (part8_first c i arg2 harg2 arg3 harg3 arg4 harg4 arg5 harg5 arg6 harg6 arg7 harg7 arg8 harg8 arg9 harg9 arg10 harg10 arg11 harg11 arg12 harg12 arg13 harg13 arg0 _ _ _ _ _ c3)
  isplitl [H8 H9 H10 H11]
  · isplitl [H8]; · iexact H8
    isplitl [H9]; · iexact H9
    isplitl [H10]; · iexact H10
    iexact H11
  iintro ⟨H8, H9, H10, H11⟩
  sl_exec
  sl_step
  iapply Hk
  isplitl [H5]; · iexact H5
  isplitl [H6]; · iexact H6
  isplitl [H7]; · iexact H7
  isplitl [H8]; · iexact H8
  isplitl [H9]; · iexact H9
  isplitl [H10]; · iexact H10
  iexact H11

theorem rest_mid (c3 : ¬ Scalar.cmpi .ne (Scalar.extui (Scalar.cmpi .eq arg0 0#32) : BitVec 32) 0#32 = 1#1) (c4 : ¬ k0_cond4 i = 1#1)
    (b5 : Vec F S1x16 .f32) (a10 a11 : S16x1.Idx → Elt F .f32) (Q) :
    iprop((hv c arg5 b5 ∗ outs c arg6 arg7 arg8 arg9 ∗ hv c arg10 a10 ∗ hv c arg11 a11)
      ∗ (wrote c arg5 arg6 arg7 arg8 arg9 arg10 arg11 v28 v29 v30 b5 (cntStep v29 v30 a10) (impStep v28 b5 a11) -∗ Q ⟨⟩))
      ⊢ wp frame (wpE (defs₀ (F := F)) 𝒱₀ (c : Thread nD τ) none) Set.univ (restG (F := F) i arg2 harg2 arg3 harg3 arg4 harg4 arg5 harg5 arg6 harg6 arg7 harg7 arg8 harg8 arg9 harg9 arg10 harg10 arg11 harg11 arg12 harg12 arg13 harg13 v28 v29 v30 arg0) Q := by
  iintro ⟨⟨H5, ⟨H6, H7, H8, H9⟩, H10, H11⟩, Hk⟩
  unfold restG
  irw [wp_bind]
  iapply (part7_run c i arg2 harg2 arg3 harg3 arg4 harg4 arg5 harg5 arg6 harg6 arg7 harg7 arg8 harg8 arg9 harg9 arg10 harg10 arg11 harg11 arg12 harg12 arg13 harg13 v28 v29 v30 b5)
  isplitl [H5 H6 H7]
  · isplitl [H5]; · iexact H5
    isplitl [H6]; · iexact H6
    iexact H7
  iintro ⟨H5, H6, H7⟩
  irw [wp_bind]
  iapply (part8_next c i arg2 harg2 arg3 harg3 arg4 harg4 arg5 harg5 arg6 harg6 arg7 harg7 arg8 harg8 arg9 harg9 arg10 harg10 arg11 harg11 arg12 harg12 arg13 harg13 arg0 _ _ _ _ _ c3 a10 a11)
  isplitl [H8 H9 H10 H11]
  · isplitl [H8]; · iexact H8
    isplitl [H9]; · iexact H9
    isplitl [H10]; · iexact H10
    iexact H11
  iintro ⟨H8, H9, H10, H11⟩
  sl_exec
  sl_step
  iapply Hk
  isplitl [H5]; · iexact H5
  isplitl [H6]; · iexact H6
  isplitl [H7]; · iexact H7
  isplitl [H8]; · iexact H8
  isplitl [H9]; · iexact H9
  isplitl [H10]; · iexact H10
  iexact H11

theorem rest_last (c3 : ¬ Scalar.cmpi .ne (Scalar.extui (Scalar.cmpi .eq arg0 0#32) : BitVec 32) 0#32 = 1#1) (c4 : k0_cond4 i = 1#1)
    (b5 : Vec F S1x16 .f32) (a10 a11 : S16x1.Idx → Elt F .f32) (Q) :
    iprop((hv c arg5 b5 ∗ outs c arg6 arg7 arg8 arg9 ∗ hv c arg10 a10 ∗ hv c arg11 a11 ∗ (∃ v, hv c arg12 v) ∗ (∃ v, hv c arg13 v))
      ∗ ((wrote c arg5 arg6 arg7 arg8 arg9 arg10 arg11 v28 v29 v30 b5 (cntStep v29 v30 a10) (impStep v28 b5 a11)
          ∗ hv c arg12 (k0_pay1 (cntStep v29 v30 a10)) ∗ hv c arg13 (k0_pay2 (impStep v28 b5 a11))) -∗ Q ⟨⟩))
      ⊢ wp frame (wpE (defs₀ (F := F)) 𝒱₀ (c : Thread nD τ) none) Set.univ (restG (F := F) i arg2 harg2 arg3 harg3 arg4 harg4 arg5 harg5 arg6 harg6 arg7 harg7 arg8 harg8 arg9 harg9 arg10 harg10 arg11 harg11 arg12 harg12 arg13 harg13 v28 v29 v30 arg0) Q := by
  iintro ⟨⟨H5, ⟨H6, H7, H8, H9⟩, H10, H11, H12, H13⟩, Hk⟩
  unfold restG
  irw [wp_bind]
  iapply (part7_run c i arg2 harg2 arg3 harg3 arg4 harg4 arg5 harg5 arg6 harg6 arg7 harg7 arg8 harg8 arg9 harg9 arg10 harg10 arg11 harg11 arg12 harg12 arg13 harg13 v28 v29 v30 b5)
  isplitl [H5 H6 H7]
  · isplitl [H5]; · iexact H5
    isplitl [H6]; · iexact H6
    iexact H7
  iintro ⟨H5, H6, H7⟩
  irw [wp_bind]
  iapply (part8_next c i arg2 harg2 arg3 harg3 arg4 harg4 arg5 harg5 arg6 harg6 arg7 harg7 arg8 harg8 arg9 harg9 arg10 harg10 arg11 harg11 arg12 harg12 arg13 harg13 arg0 _ _ _ _ _ c3 a10 a11)
  isplitl [H8 H9 H10 H11]
  · isplitl [H8]; · iexact H8
    isplitl [H9]; · iexact H9
    isplitl [H10]; · iexact H10
    iexact H11
  unfold wrote hv owns
  iintro ⟨H8, H9, ⟨%f10, %e10, H10⟩, ⟨%f11, %e11, H11⟩⟩
  icases H12 with ⟨%v12, %f12, -, H12⟩
  icases H13 with ⟨%v13, %f13, -, H13⟩
  sl_exec
  sl_step
  iapply Hk
  isplitl [H5 H6 H7 H8 H9 H10 H11]
  · isplitl [H5]; · iexact H5
    isplitl [H6]; · iexact H6
    isplitl [H7]; · iexact H7
    isplitl [H8]; · iexact H8
    isplitl [H9]; · iexact H9
    isplitl [H10]
    · iexists f10; isplitr; · ipureintro; exact e10
      iexact H10
    iexists f11; isplitr; · ipureintro; exact e11
    iexact H11
  isplitl [H12]
  · iexists _; isplitr
    rotate_left
    · iexact H12
    · ipureintro; rw [View.read_writes_full, View.readAt_full, e10]
  · iexists _; isplitr
    rotate_left
    · iexact H13
    · ipureintro; rw [View.read_writes_full, View.readAt_full, e11]

end Rest

end Cert.Router.KernelIdeal

end
-- ==== Proof.RingState.lean ====
/-
  The buffer's state between grid points: which blocks are at home, which are in flight, and which slots are free; and
  how a point changes it.
-/
module

public import proofs.«01_k».proof.Proof.Fill

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## Which blocks and slots, as sets -/

/-- Before point `p`: the blocks at home, -/
def homeS (p : ℕ) : Finset (Fin 32) := Finset.univ.filter fun b => b.val < p ∨ p = 0 ∨ p + 11 ≤ b.val
/-- the blocks in flight, -/
def flS (p : ℕ) : Finset (Fin 32) := Finset.univ.filter fun b => 1 ≤ p ∧ p ≤ b.val ∧ b.val < p + 11
/-- and the free slots. -/
def freeS (p : ℕ) : Finset (Fin 12) := Finset.univ.filter fun s => ∀ b : Fin 32, 1 ≤ p ∧ p ≤ b.val ∧ b.val < p + 11 → b.val % 12 ≠ s.val

theorem mid_sets : ∀ t : Fin 32, 1 ≤ t.val → t.val + 11 < 32 →
    (Ring.bk 32 (t.val + 11) ∈ homeS t.val ∧ homeS (t.val + 1) = insert (Ring.bk 32 t.val) ((homeS t.val).erase (Ring.bk 32 (t.val + 11))) ∧ Ring.bk 32 t.val ∉ (homeS t.val).erase (Ring.bk 32 (t.val + 11)))
    ∧ (Ring.bk 32 t.val ∈ flS t.val ∧ flS (t.val + 1) = insert (Ring.bk 32 (t.val + 11)) ((flS t.val).erase (Ring.bk 32 t.val)) ∧ Ring.bk 32 (t.val + 11) ∉ (flS t.val).erase (Ring.bk 32 t.val))
    ∧ (Ring.sl 12 (t.val + 11) ∈ freeS t.val ∧ freeS (t.val + 1) = insert (Ring.sl 12 t.val) ((freeS t.val).erase (Ring.sl 12 (t.val + 11))) ∧ Ring.sl 12 t.val ∉ (freeS t.val).erase (Ring.sl 12 (t.val + 11)))
    ∧ Ring.sl 12 (Ring.bk 32 t.val).val = Ring.sl 12 t.val ∧ Ring.sl 12 (Ring.bk 32 (t.val + 11)).val = Ring.sl 12 (t.val + 11) := by
  decide +kernel

theorem tail_sets : ∀ t : Fin 32, 1 ≤ t.val → ¬ t.val + 11 < 32 →
    (homeS (t.val + 1) = insert (Ring.bk 32 t.val) (homeS t.val) ∧ Ring.bk 32 t.val ∉ homeS t.val)
    ∧ (Ring.bk 32 t.val ∈ flS t.val ∧ flS (t.val + 1) = (flS t.val).erase (Ring.bk 32 t.val))
    ∧ (freeS (t.val + 1) = insert (Ring.sl 12 t.val) (freeS t.val) ∧ Ring.sl 12 t.val ∉ freeS t.val)
    ∧ Ring.sl 12 (Ring.bk 32 t.val).val = Ring.sl 12 t.val := by
  decide +kernel

section Sums
variable {I : Type} [DecidableEq I]
theorem sum_insert {s : Finset I} {i : I} (hi : i ∉ s) {Φ : I → sProp 𝕄} : bigSep (insert i s) Φ = iprop(Φ i ∗ bigSep s Φ) := bigSep_insert hi
theorem sum_erase {s : Finset I} {i : I} (hi : i ∈ s) {Φ : I → sProp 𝕄} : bigSep s Φ = iprop(Φ i ∗ bigSep (s.erase i) Φ) := bigSep_erase hi
theorem sum_union {s t : Finset I} (h : Disjoint s t) {Φ : I → sProp 𝕄} : bigSep (s ∪ t) Φ = iprop(bigSep s Φ ∗ bigSep t Φ) := bigSep_union h
theorem sum_sep (s : Finset I) (Φ Ψ : I → sProp 𝕄) : bigSep s (fun i => iprop(Φ i ∗ Ψ i)) = iprop(bigSep s Φ ∗ bigSep s Ψ) := bigSep_sep s Φ Ψ
end Sums

section RingState
variable (c : Dev nD) (X : Buf (Elt F) (xM.view.loc (c : Thread nD τ)))

/-- The buffer before point `p`. -/
def ringAt (p : ℕ) : sProp 𝕄 :=
  iprop(bigSep (homeS p) (home c X) ∗ bigSep (flS p) (fun b => flight c X (Ring.sl 12 b.val) b) ∗ bigSep (freeS p) (free c))

/-- What a middle point leaves alone. -/
def ringMid (t : ℕ) : sProp 𝕄 :=
  iprop(bigSep ((homeS t).erase (Ring.bk 32 (t + 11))) (home c X) ∗ bigSep ((flS t).erase (Ring.bk 32 t)) (fun b => flight c X (Ring.sl 12 b.val) b)
    ∗ bigSep ((freeS t).erase (Ring.sl 12 (t + 11))) (free c))
theorem ring_mid_open (t : ℕ) (h1 : 1 ≤ t) (h2 : t + 11 < 32) :
    (ringAt c X t : sProp 𝕄) ⊢ iprop(flight c X (Ring.sl 12 t) (Ring.bk 32 t) ∗ free c (Ring.sl 12 (t + 11)) ∗ home c X (Ring.bk 32 (t + 11)) ∗ ringMid c X t) := by
  obtain ⟨⟨ha, -, -⟩, ⟨hb, -, -⟩, ⟨hc, -, -⟩, e1, -⟩ := mid_sets ⟨t, by omega⟩ h1 h2
  dsimp only at ha hb hc e1
  unfold ringAt ringMid
  rw [sum_erase ha, sum_erase hb, sum_erase hc, e1]
  iintro ⟨⟨H1, H2⟩, ⟨H3, H4⟩, ⟨H5, H6⟩⟩
  isplitl [H3]; · iexact H3
  isplitl [H5]; · iexact H5
  isplitl [H1]; · iexact H1
  isplitl [H2]; · iexact H2
  isplitl [H4]; · iexact H4
  iexact H6
theorem ring_mid_close (t : ℕ) (h1 : 1 ≤ t) (h2 : t + 11 < 32) :
    iprop(flight c X (Ring.sl 12 (t + 11)) (Ring.bk 32 (t + 11)) ∗ free c (Ring.sl 12 t) ∗ home c X (Ring.bk 32 t) ∗ ringMid c X t) ⊢ (ringAt c X (t + 1) : sProp 𝕄) := by
  obtain ⟨⟨-, ha, ha'⟩, ⟨-, hb, hb'⟩, ⟨-, hc, hc'⟩, -, e2⟩ := mid_sets ⟨t, by omega⟩ h1 h2
  dsimp only at ha hb hc ha' hb' hc' e2
  unfold ringAt ringMid
  rw [ha, hb, hc, sum_insert ha', sum_insert hb', sum_insert hc', e2]
  iintro ⟨H3, H5, H1, H2, H4, H6⟩
  isplitl [H1 H2]
  · isplitl [H1]; · iexact H1
    iexact H2
  isplitl [H3 H4]
  · isplitl [H3]; · iexact H3
    iexact H4
  isplitl [H5]; · iexact H5
  iexact H6

/-- What a point past the look-ahead leaves alone. -/
def ringTail (t : ℕ) : sProp 𝕄 :=
  iprop(bigSep (homeS t) (home c X) ∗ bigSep ((flS t).erase (Ring.bk 32 t)) (fun b => flight c X (Ring.sl 12 b.val) b) ∗ bigSep (freeS t) (free c))
theorem ring_tail_open (t : ℕ) (h1 : 1 ≤ t) (h2 : ¬ t + 11 < 32) (h3 : t < 32) :
    (ringAt c X t : sProp 𝕄) ⊢ iprop(flight c X (Ring.sl 12 t) (Ring.bk 32 t) ∗ ringTail c X t) := by
  obtain ⟨-, ⟨hb, -⟩, -, e1⟩ := tail_sets ⟨t, h3⟩ h1 h2
  dsimp only at hb e1
  unfold ringAt ringTail
  rw [sum_erase hb, e1]
  iintro ⟨H2, ⟨H3, H4⟩, H6⟩
  isplitl [H3]; · iexact H3
  isplitl [H2]; · iexact H2
  isplitl [H4]; · iexact H4
  iexact H6
theorem ring_tail_close (t : ℕ) (h1 : 1 ≤ t) (h2 : ¬ t + 11 < 32) (h3 : t < 32) :
    iprop(free c (Ring.sl 12 t) ∗ home c X (Ring.bk 32 t) ∗ ringTail c X t) ⊢ (ringAt c X (t + 1) : sProp 𝕄) := by
  obtain ⟨⟨ha, ha'⟩, ⟨-, hb⟩, ⟨hc, hc'⟩, -⟩ := tail_sets ⟨t, h3⟩ h1 h2
  dsimp only at ha hb hc ha' hc'
  unfold ringAt ringTail
  rw [ha, hb, hc, sum_insert ha', sum_insert hc']
  iintro ⟨H5, H1, H2, H4, H6⟩
  isplitl [H1 H2]
  · isplitl [H1]; · iexact H1
    iexact H2
  isplitl [H4]; · iexact H4
  isplitl [H5]; · iexact H5
  iexact H6

/-- What the first point leaves alone: blocks 12 to 31. -/
def ringFirst : sProp 𝕄 := bigSep (Finset.univ.filter fun b : Fin 32 => 12 ≤ b.val) (home c X)

theorem bigSep_low (Ψ : Fin 32 → sProp 𝕄) : bigSep (Finset.univ.filter fun b : Fin 32 => b.val < 12) Ψ
    = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11) := by
  rw [show (Finset.univ.filter fun b : Fin 32 => b.val < 12) = insert 0 (insert 1 (insert 2 (insert 3 (insert 4 (insert 5 (insert 6 (insert 7 (insert 8 (insert 9 (insert 10 {11})))))))))) from by decide +kernel]
  rw [sum_insert (by decide), sum_insert (by decide), sum_insert (by decide), sum_insert (by decide), sum_insert (by decide), sum_insert (by decide), sum_insert (by decide), sum_insert (by decide), sum_insert (by decide), sum_insert (by decide), sum_insert (by decide), bigSep_singleton]
theorem bigSep_slots (Ψ : Fin 12 → sProp 𝕄) : bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11) :=
  bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)] (by decide) (by decide) Ψ
theorem home_zero : homeS 0 = (Finset.univ.filter fun b : Fin 32 => b.val < 12) ∪ (Finset.univ.filter fun b : Fin 32 => 12 ≤ b.val) := by decide +kernel

theorem ring_first_open : (ringAt c X 0 : sProp 𝕄) ⊢ iprop((free c 0 ∗ home c X 0 ∗ free c 1 ∗ home c X 1 ∗ free c 2 ∗ home c X 2 ∗ free c 3 ∗ home c X 3 ∗ free c 4 ∗ home c X 4 ∗ free c 5 ∗ home c X 5 ∗ free c 6 ∗ home c X 6 ∗ free c 7 ∗ home c X 7 ∗ free c 8 ∗ home c X 8 ∗ free c 9 ∗ home c X 9 ∗ free c 10 ∗ home c X 10 ∗ free c 11 ∗ home c X 11) ∗ ringFirst c X) := by
  unfold ringAt ringFirst
  rw [home_zero, sum_union (by decide +kernel), bigSep_low, show flS 0 = ∅ from by decide +kernel, bigSep_empty, show freeS 0 = Finset.univ from by decide +kernel, bigSep_slots]
  iintro ⟨⟨⟨A0, A1, A2, A3, A4, A5, A6, A7, A8, A9, A10, A11⟩, HR⟩, -, ⟨B0, B1, B2, B3, B4, B5, B6, B7, B8, B9, B10, B11⟩⟩
  isplitr [HR]
  rotate_left
  · iexact HR
  isplitl [B0]; · iexact B0
  isplitl [A0]; · iexact A0
  isplitl [B1]; · iexact B1
  isplitl [A1]; · iexact A1
  isplitl [B2]; · iexact B2
  isplitl [A2]; · iexact A2
  isplitl [B3]; · iexact B3
  isplitl [A3]; · iexact A3
  isplitl [B4]; · iexact B4
  isplitl [A4]; · iexact A4
  isplitl [B5]; · iexact B5
  isplitl [A5]; · iexact A5
  isplitl [B6]; · iexact B6
  isplitl [A6]; · iexact A6
  isplitl [B7]; · iexact B7
  isplitl [A7]; · iexact A7
  isplitl [B8]; · iexact B8
  isplitl [A8]; · iexact A8
  isplitl [B9]; · iexact B9
  isplitl [A9]; · iexact A9
  isplitl [B10]; · iexact B10
  isplitl [A10]; · iexact A10
  isplitl [B11]; · iexact B11
  iexact A11

theorem ring_first_close : iprop((flight c X 1 1 ∗ flight c X 2 2 ∗ flight c X 3 3 ∗ flight c X 4 4 ∗ flight c X 5 5 ∗ flight c X 6 6 ∗ flight c X 7 7 ∗ flight c X 8 8 ∗ flight c X 9 9 ∗ flight c X 10 10 ∗ flight c X 11 11) ∗ free c 0 ∗ home c X 0 ∗ ringFirst c X) ⊢ (ringAt c X 1 : sProp 𝕄) := by
  unfold ringAt ringFirst
  rw [show homeS 1 = insert 0 (Finset.univ.filter fun b : Fin 32 => 12 ≤ b.val) from by decide +kernel, sum_insert (by decide +kernel),
    show flS 1 = insert 1 (insert 2 (insert 3 (insert 4 (insert 5 (insert 6 (insert 7 (insert 8 (insert 9 (insert 10 {11}))))))))) from by decide +kernel,
    sum_insert (by decide), sum_insert (by decide), sum_insert (by decide), sum_insert (by decide), sum_insert (by decide), sum_insert (by decide), sum_insert (by decide), sum_insert (by decide), sum_insert (by decide), sum_insert (by decide), bigSep_singleton, show freeS 1 = {0} from by decide +kernel, bigSep_singleton]
  iintro ⟨⟨A1, A2, A3, A4, A5, A6, A7, A8, A9, A10, A11⟩, HF, HH, HR⟩
  isplitl [HH HR]
  · isplitl [HH]; · iexact HH
    iexact HR
  isplitr [HF]
  rotate_left
  · iexact HF
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

theorem ring_last : (ringAt c X 32 : sProp 𝕄) ⊢ iprop(bigSep Finset.univ (home c X) ∗ bigSep Finset.univ (free c)) := by
  unfold ringAt
  rw [show homeS 32 = Finset.univ from by decide +kernel, show freeS 32 = Finset.univ from by decide +kernel]
  iintro ⟨H, -, H'⟩
  isplitl [H]; · iexact H
  iexact H'
theorem ring_zero : iprop(bigSep Finset.univ (home c X) ∗ bigSep Finset.univ (free c)) ⊢ (ringAt c X 0 : sProp 𝕄) := by
  unfold ringAt
  rw [show homeS 0 = Finset.univ from by decide +kernel, show flS 0 = ∅ from by decide +kernel, bigSep_empty, show freeS 0 = Finset.univ from by decide +kernel]
  iintro ⟨H, H'⟩
  isplitl [H]; · iexact H
  isplitr; · iempintro
  iexact H'

/-! ## The two arrays whole, and in pieces -/

/-- The elements of block `b`'s halves. -/
abbrev HA (b : Fin 32) : Finset S16384x2048.Idx := (Rect.unit (s := S16384x2048) (srcAOff b) S512x1024.size (srcAOff_inb b)).set
abbrev HB (b : Fin 32) : Finset S16384x2048.Idx := (Rect.unit (s := S16384x2048) (srcBOff b) S512x1024.size (srcBOff_inb b)).set
theorem srcA_set (b : Fin 32) : (srcA b).view.set = HA b := View.set_slice_whole _ _
theorem srcB_set (b : Fin 32) : (srcB b).view.set = HB b := View.set_slice_whole _ _
theorem mem_HA (b : Fin 32) (y : S16384x2048.Idx) : y ∈ HA b ↔ (b.val * 512 ≤ (y 0).val ∧ (y 0).val < b.val * 512 + 512) ∧ (y 1).val < 1024 := by
  rw [Rect.mem_set_unit]
  constructor
  · intro H
    have a0 : b.val * 512 ≤ (y 0).val ∧ (y 0).val < b.val * 512 + 512 := H 0
    have a1 : 0 ≤ (y 1).val ∧ (y 1).val < 0 + 1024 := H 1
    omega
  · intro H i; fin_cases i
    · show b.val * 512 ≤ (y 0).val ∧ (y 0).val < b.val * 512 + 512; omega
    · show 0 ≤ (y 1).val ∧ (y 1).val < 0 + 1024; omega
theorem mem_HB (b : Fin 32) (y : S16384x2048.Idx) : y ∈ HB b ↔ (b.val * 512 ≤ (y 0).val ∧ (y 0).val < b.val * 512 + 512) ∧ 1024 ≤ (y 1).val := by
  rw [Rect.mem_set_unit]
  have h1 : (y 1).val < 2048 := (y 1).isLt
  constructor
  · intro H
    have a0 : b.val * 512 ≤ (y 0).val ∧ (y 0).val < b.val * 512 + 512 := H 0
    have a1 : 1024 ≤ (y 1).val ∧ (y 1).val < 1024 + 1024 := H 1
    omega
  · intro H i; fin_cases i
    · show b.val * 512 ≤ (y 0).val ∧ (y 0).val < b.val * 512 + 512; omega
    · show 1024 ≤ (y 1).val ∧ (y 1).val < 1024 + 1024; omega
theorem HAB_disjoint (b : Fin 32) : Disjoint (HA b) (HB b) := by
  rw [Finset.disjoint_left]; intro y h h'; rw [mem_HA] at h; rw [mem_HB] at h'; omega
theorem H_disjoint : ∀ b b' : Fin 32, b ≠ b' → Disjoint (HA b ∪ HB b) (HA b' ∪ HB b') := by
  intro b b' hne; rw [Finset.disjoint_left]; intro y h h'
  rw [Finset.mem_union, mem_HA, mem_HB] at h h'; apply hne; apply Fin.ext; omega
theorem H_cover : (Finset.univ : Finset (Fin 32)).biUnion (fun b => HA b ∪ HB b) = Finset.univ := by
  ext y; simp only [Finset.mem_biUnion, Finset.mem_univ, true_and, iff_true]
  have h0 : (y 0).val < 16384 := (y 0).isLt
  exact ⟨⟨(y 0).val / 512, by omega⟩, by rw [Finset.mem_union, mem_HA, mem_HB]; dsimp only; omega⟩

/-- `x` whole is its blocks at home. -/
theorem x_eq : ((c : Thread nD τ).loc main_v0 ↦{fullShare} X : sProp 𝕄) = bigSep Finset.univ (home c X) := by
  rw [Ring.pointsTo_blocks (ℓ := (c : Thread nD τ).loc main_v0) (fun b => HA b ∪ HB b) H_disjoint H_cover]
  refine bigSep_congr fun b _ => ?_
  unfold home
  refine ((pointsTo_union (HAB_disjoint b)).1.antisymm (pointsTo_union (HAB_disjoint b)).2).trans ?_
  unfold homeA homeB
  rw [show ((srcA b).view.loc (c : Thread nD τ) ↦[(srcA b).view.set]{fullShare} X : sProp 𝕄) = ((c : Thread nD τ).loc main_v0 ↦[HA b]{fullShare} X) from congrArg (fun S => ((c : Thread nD τ).loc main_v0 ↦[S]{fullShare} X : sProp 𝕄)) (srcA_set b),
    show ((srcB b).view.loc (c : Thread nD τ) ↦[(srcB b).view.set]{fullShare} X : sProp 𝕄) = ((c : Thread nD τ).loc main_v0 ↦[HB b]{fullShare} X) from congrArg (fun S => ((c : Thread nD τ).loc main_v0 ↦[S]{fullShare} X : sProp 𝕄)) (srcB_set b)]

theorem GW_disjoint : ∀ s s' : Fin 12, s ≠ s' → Disjoint (GW s) (GW s') := by
  intro s s' hne; rw [Finset.disjoint_left]; intro y h h'; rw [mem_slW] at h h'; exact hne (Fin.ext (h.symm.trans h'))
theorem GW_cover : (Finset.univ : Finset (Fin 12)).biUnion GW = Finset.univ := by
  ext y; simp only [Finset.mem_biUnion, Finset.mem_univ, true_and, iff_true]; exact ⟨(y 0).cast (by decide), by rw [mem_slW]; rfl⟩

theorem slW_at (s : Fin 12) (f) : (slWP c s f : sProp 𝕄) = ((c : Thread nD τ).loc cc0_scratch0 ↦[GW s]{fullShare} f) :=
  congrArg (fun S => ((c : Thread nD τ).loc cc0_scratch0 ↦[S]{fullShare} f : sProp 𝕄)) (slW_set s)

/-- The cells at zero. -/
def cells0 : sProp 𝕄 := bigSep Finset.univ fun s : Fin 12 => iprop(cellA (F := F) c s ∗ cellB c s)
theorem slot_split (s : Fin 12) (f) : iprop(((c : Thread nD τ).loc cc0_scratch0 ↦[GW s]{fullShare} f) ∗ cellA c s ∗ cellB c s) ⊢ (free c s : sProp 𝕄) := by
  unfold free
  iintro ⟨H, HA, HB⟩
  ihave H' := (entails_of_eq (slW_at c s f).symm) $$ H
  ihave HS := (slW_eq c s f).1 $$ H'
  icases HS with ⟨H1, H2⟩
  isplitl [HA]; · iexact HA
  isplitl [HB]; · iexact HB
  isplitl [H1]; · iexists f; iexact H1
  iexists f; iexact H2

/-- The buffer whole, with its cells, is its slots free, -/
theorem buf_split : iprop((∃ f : Buf (Elt F) ((c : Thread nD τ).loc cc0_scratch0), (c : Thread nD τ).loc cc0_scratch0 ↦{fullShare} f) ∗ cells0 c)
    ⊢ (bigSep Finset.univ (free c) : sProp 𝕄) := by
  iintro ⟨⟨%f, H⟩, HC⟩
  ihave H2 := (entails_of_eq (Ring.pointsTo_blocks (Ix := Unit) (Name := ℕ) (U := UD sig nD τ) (Lvl := ℕ) (q := fullShare) (ℓ := (c : Thread nD τ).loc cc0_scratch0) GW GW_disjoint GW_cover f)) $$ H
  iapply (show iprop(bigSep Finset.univ (fun s => ((c : Thread nD τ).loc cc0_scratch0 ↦[GW s]{fullShare} f : sProp 𝕄)) ∗ cells0 c) ⊢ (bigSep Finset.univ (free c) : sProp 𝕄) from by
    unfold cells0
    rw [← sum_sep]
    exact bigSep_mono fun s _ => slot_split c s f)
  isplitl [H2]; · iexact H2
  iexact HC

theorem slA_at (s : Fin 12) (f) : (slAP c s f : sProp 𝕄) = ((c : Thread nD τ).loc cc0_scratch0 ↦[GA s]{fullShare} f) :=
  congrArg (fun S => ((c : Thread nD τ).loc cc0_scratch0 ↦[S]{fullShare} f : sProp 𝕄)) (slA_set s)
theorem slB_at (s : Fin 12) (f) : (slBP c s f : sProp 𝕄) = ((c : Thread nD τ).loc cc0_scratch0 ↦[GB s]{fullShare} f) :=
  congrArg (fun S => ((c : Thread nD τ).loc cc0_scratch0 ↦[S]{fullShare} f : sProp 𝕄)) (slB_set s)

theorem slot_join (s : Fin 12) : (free c s : sProp 𝕄) ⊢ iprop((∃ f, (c : Thread nD τ).loc cc0_scratch0 ↦[GW s]{fullShare} f) ∗ cellA c s ∗ cellB c s) := by
  unfold free
  iintro ⟨HA, HB, ⟨%f, H1⟩, ⟨%f', H2⟩⟩
  isplitl [H1 H2]
  · ihave H1' := (entails_of_eq (slA_at c s f)) $$ H1
    ihave H2' := (entails_of_eq (slB_at c s f')) $$ H2
    iexists ((GB s).piecewise f' f)
    irw [GW_union]
    iapply (pointsTo_join (GAB_disjoint s))
    isplitl [H1']; · iexact H1'
    iexact H2'
  isplitl [HA]; · iexact HA
  iexact HB

/-- and back. -/
theorem buf_join (f₀ : Buf (Elt F) ((c : Thread nD τ).loc cc0_scratch0)) : (bigSep Finset.univ (free c) : sProp 𝕄)
    ⊢ iprop((∃ f : Buf (Elt F) ((c : Thread nD τ).loc cc0_scratch0), (c : Thread nD τ).loc cc0_scratch0 ↦{fullShare} f) ∗ cells0 c) := by
  iintro H
  ihave H2 := (show (bigSep Finset.univ (free c) : sProp 𝕄)
      ⊢ iprop(bigSep Finset.univ (fun s => (iprop(∃ f, (c : Thread nD τ).loc cc0_scratch0 ↦[GW s]{fullShare} f) : sProp 𝕄)) ∗ cells0 c) from by
    unfold cells0
    rw [← sum_sep]
    exact bigSep_mono fun s _ => slot_join c s) $$ H
  icases H2 with ⟨H3, HC⟩
  isplitl [H3]
  · iapply (Ring.pointsTo_blocks_join_exists (Ix := Unit) (Name := ℕ) (U := UD sig nD τ) (Lvl := ℕ) (q := fullShare) (ℓ := (c : Thread nD τ).loc cc0_scratch0) GW GW_disjoint GW_cover f₀)
    iexact H3
  iexact HC

end RingState

end Cert.Router.KernelIdeal

end
-- ==== Proof.Point.lean ====
/-
  A grid point whole: the block's read, then the logits, experts, gates and sums, over the buffer's state.
-/
module

public import proofs.«01_k».proof.Proof.Rest
public import proofs.«01_k».proof.Proof.RingState

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Point
variable (c : Dev nD) (X : Buf (Elt F) (xM.view.loc (c : Thread nD τ)))

/-- The weights' buffer, reading as `wv`. -/
def wtIs (wv : FVec F S2048x32 .f32) : sProp 𝕄 := iprop(∃ wt, ⌜rd15 c wt = wv⌝ ∗ own c wtM wt)
/-- Block `t`'s product with the weights, and its first 16 rows. -/
abbrev lgAt (t : ℕ) (wv : FVec F S2048x32 .f32) : FVec F S32x512 .f32 := k0_pay4 (xAt c X (Ring.bk 32 t)) wv
abbrev lrAt (t : ℕ) (wv : FVec F S2048x32 .f32) : FVec F S16x512 .f32 := k0_pay5 (xAt c X (Ring.bk 32 t)) wv

theorem rdW_of (a : Memref sig .tc .vmem S16x2048 .f32) {g : Buf (Elt F) (a.view.loc (c : Thread nD τ))} {v} (h : a.view.read (Elt F) g = v) : rdW c a g = v := by
  unfold rdW; rw [View.readAt_full]; exact h
theorem rd4_of (a : Memref sig .tc .vmem S1x16 .f32) {g : Buf (Elt F) (a.view.loc (c : Thread nD τ))} {v} (h : a.view.read (Elt F) g = v) : rd4 c a g = v := by
  unfold rd4; rw [View.readAt_full]; exact h

variable (i : grid0.Coords)
  (arg2 : Memref sig .tc .vmem S16x2048 .f32) (harg2 : arg2.IsWhole)
  (arg3 : Memref sig .tc .vmem S16x2048 .f32) (harg3 : arg3.IsWhole)
  (arg4 : Memref sig .tc .vmem S1x16 .f32) (harg4 : arg4.IsWhole)
  (arg5 : Memref sig .tc .vmem S1x16 .f32) (harg5 : arg5.IsWhole)
  (arg6 : Memref sig .tc .vmem S16x512 .f32) (harg6 : arg6.IsWhole)
  (arg7 : Memref sig .tc .vmem S2x512 .i32) (harg7 : arg7.IsWhole)
  (arg8 : Memref sig .tc .vmem S2x512 .f32) (harg8 : arg8.IsWhole)
  (arg9 : Memref sig .tc .vmem S16x512 .f32) (harg9 : arg9.IsWhole)
  (arg10 : Memref sig .tc .vmem S16x1 .f32) (harg10 : arg10.IsWhole)
  (arg11 : Memref sig .tc .vmem S16x1 .f32) (harg11 : arg11.IsWhole)
  (arg12 : Memref sig .tc .vmem S1x1 .f32) (harg12 : arg12.IsWhole)
  (arg13 : Memref sig .tc .vmem S1x1 .f32) (harg13 : arg13.IsWhole)

theorem point_first (h0 : (i 0).val = 0) (c1 : k0_cond1 i = 1#1) (c2 : k0_cond2 i = 1#1) (h11 : (i 0).val + 11 < 32) (c3 : Scalar.cmpi .ne (Scalar.extui (Scalar.cmpi .eq (BitVec.ofNat 32 (i 0).val) 0#32) : BitVec 32) 0#32 = 1#1) (c4 : ¬ k0_cond4 i = 1#1) (w2 w3 : S16x2048.Idx → Elt F .f32) (b4 b5 : S1x16.Idx → Elt F .f32) (W) (Q) :
    iprop((ringAt c X (i 0).val ∗ (∃ wt, own c wtM wt) ∗ hv c arg2 w2 ∗ hv c arg3 w3 ∗ hv c arg4 b4 ∗ hv c arg5 b5 ∗ outs c arg6 arg7 arg8 arg9 ∗ ((∃ v, hv c arg10 v) ∗ (∃ v, hv c arg11 v)) ∗ owes (c : Thread nD τ) 0 W)
      ∗ ((ringAt c X ((i 0).val + 1) ∗ wtIs c (k0_pay3 w2 w3) ∗ hv c arg2 w2 ∗ hv c arg3 w3 ∗ hv c arg4 b4
          ∗ wrote c arg5 arg6 arg7 arg8 arg9 arg10 arg11 (lgAt c X (i 0).val (k0_pay3 w2 w3)) (lrAt c X (i 0).val (k0_pay3 w2 w3)) b4 b5 (cntStep (F := F) (lrAt c X (i 0).val (k0_pay3 w2 w3)) b4 k0_pay16) (impStep (lgAt c X (i 0).val (k0_pay3 w2 w3)) b5 k0_pay17) ∗ (∃ W', owes (c : Thread nD τ) 0 W')) -∗ Q ⟨⟩))
      ⊢ wp frame (wpE (defs₀ (F := F)) 𝒱₀ (c : Thread nD τ) none) Set.univ (cc0__body (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3) Q := by
  irw [body_eq]
  iintro ⟨⟨HR, Hwt, H2, H3, H4, H5, HO, ⟨H10, H11⟩, HW⟩, Hk⟩
  irw [wp_bind]
  unfold hv owns
  icases H2 with ⟨%f2, %e2, H2⟩
  icases H3 with ⟨%f3, %e3, H3⟩
  icases H4 with ⟨%f4, %e4, H4⟩
  icases Hwt with ⟨%wt, Hwt⟩
  ihave HR' := (show (ringAt c X (i 0).val : sProp 𝕄) ⊢ iprop((free c 0 ∗ home c X 0 ∗ free c 1 ∗ home c X 1 ∗ free c 2 ∗ home c X 2 ∗ free c 3 ∗ home c X 3 ∗ free c 4 ∗ home c X 4 ∗ free c 5 ∗ home c X 5 ∗ free c 6 ∗ home c X 6 ∗ free c 7 ∗ home c X 7 ∗ free c 8 ∗ home c X 8 ∗ free c 9 ∗ home c X 9 ∗ free c 10 ∗ home c X 10 ∗ free c 11 ∗ home c X 11) ∗ ringFirst c X) from by rw [h0]; exact ring_first_open c X) $$ HR
  icases HR' with ⟨⟨F0, A0, F1, A1, F2, A2, F3, A3, F4, A4, F5, A5, F6, A6, F7, A7, F8, A8, F9, A9, F10, A10, F11, A11⟩, HR⟩
  iapply (fill_first c X i arg2 harg2 arg3 harg3 arg4 harg4 arg5 harg5 arg6 harg6 arg7 harg7 arg8 harg8 arg9 harg9 arg10 harg10 arg11 harg11 arg12 harg12 arg13 harg13 h0 c1 c2 h11 f2 f3 wt f4 W)
  isplitl [F0 A0 F1 A1 F2 A2 F3 A3 F4 A4 F5 A5 F6 A6 F7 A7 F8 A8 F9 A9 F10 A10 F11 A11 H2 H3 Hwt H4 HW]
  · isplitl [F0]; · iexact F0
    isplitl [A0]; · iexact A0
    isplitl [F1]; · iexact F1
    isplitl [A1]; · iexact A1
    isplitl [F2]; · iexact F2
    isplitl [A2]; · iexact A2
    isplitl [F3]; · iexact F3
    isplitl [A3]; · iexact A3
    isplitl [F4]; · iexact F4
    isplitl [A4]; · iexact A4
    isplitl [F5]; · iexact F5
    isplitl [A5]; · iexact A5
    isplitl [F6]; · iexact F6
    isplitl [A6]; · iexact A6
    isplitl [F7]; · iexact F7
    isplitl [A7]; · iexact A7
    isplitl [F8]; · iexact F8
    isplitl [A8]; · iexact A8
    isplitl [F9]; · iexact F9
    isplitl [A9]; · iexact A9
    isplitl [F10]; · iexact F10
    isplitl [A10]; · iexact A10
    isplitl [F11]; · iexact F11
    isplitl [A11]; · iexact A11
    isplitl [H2]; · iexact H2
    isplitl [H3]; · iexact H3
    isplitl [Hwt]; · iexact Hwt
    isplitl [H4]; · iexact H4
    iexact HW
  iintro ⟨L1, L2, L3, L4, L5, L6, L7, L8, L9, L10, L11, F0, A0, H2, H3, ⟨%wt', %ewt, Hwt⟩, H4, HW⟩
  irw [rdW_of c arg2 e2, rdW_of c arg3 e3, rd4_of c arg4 e4, show xAt c X 0 = xAt c X (Ring.bk 32 (i 0).val) from by rw [bk_first h0]]
  rw [rdW_of c arg2 e2, rdW_of c arg3 e3] at ewt
  iapply (rest_first c i arg2 harg2 arg3 harg3 arg4 harg4 arg5 harg5 arg6 harg6 arg7 harg7 arg8 harg8 arg9 harg9 arg10 harg10 arg11 harg11 arg12 harg12 arg13 harg13 (lgAt c X (i 0).val (k0_pay3 w2 w3)) (lrAt c X (i 0).val (k0_pay3 w2 w3)) b4 (BitVec.ofNat 32 (i 0).val) c3 c4 b5)
  isplitl [H5 HO H10 H11]
  · unfold hv owns
    isplitl [H5]; · iexact H5
    isplitl [HO]; · iexact HO
    isplitl [H10]; · iexact H10
    iexact H11
  iintro HWR
  iapply Hk
  isplitl [L1 L2 L3 L4 L5 L6 L7 L8 L9 L10 L11 F0 A0 HR]
  · iapply (show iprop((flight c X 1 1 ∗ flight c X 2 2 ∗ flight c X 3 3 ∗ flight c X 4 4 ∗ flight c X 5 5 ∗ flight c X 6 6 ∗ flight c X 7 7 ∗ flight c X 8 8 ∗ flight c X 9 9 ∗ flight c X 10 10 ∗ flight c X 11 11) ∗ free c 0 ∗ home c X 0 ∗ ringFirst c X) ⊢ (ringAt c X ((i 0).val + 1) : sProp 𝕄) from by rw [h0]; exact ring_first_close c X)
    isplitl [L1 L2 L3 L4 L5 L6 L7 L8 L9 L10 L11]
    · isplitl [L1]; · iexact L1
      isplitl [L2]; · iexact L2
      isplitl [L3]; · iexact L3
      isplitl [L4]; · iexact L4
      isplitl [L5]; · iexact L5
      isplitl [L6]; · iexact L6
      isplitl [L7]; · iexact L7
      isplitl [L8]; · iexact L8
      isplitl [L9]; · iexact L9
      isplitl [L10]; · iexact L10
      iexact L11
    isplitl [F0]; · iexact F0
    isplitl [A0]; · iexact A0
    iexact HR
  isplitl [Hwt]
  · unfold wtIs
    iexists wt'; isplitr; · ipureintro; exact ewt
    iexact Hwt
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [HWR]; · iexact HWR
  iexact HW

theorem point_mid (h1 : 1 ≤ (i 0).val) (c1 : ¬ k0_cond1 i = 1#1) (c2 : k0_cond2 i = 1#1) (h11 : (i 0).val + 11 < 32) (c3 : ¬ Scalar.cmpi .ne (Scalar.extui (Scalar.cmpi .eq (BitVec.ofNat 32 (i 0).val) 0#32) : BitVec 32) 0#32 = 1#1) (c4 : ¬ k0_cond4 i = 1#1) (w2 w3 : S16x2048.Idx → Elt F .f32) (b4 b5 : S1x16.Idx → Elt F .f32) (wv : FVec F S2048x32 .f32) (a10 a11 : S16x1.Idx → Elt F .f32) (W) (Q) :
    iprop((ringAt c X (i 0).val ∗ wtIs c wv ∗ hv c arg2 w2 ∗ hv c arg3 w3 ∗ hv c arg4 b4 ∗ hv c arg5 b5 ∗ outs c arg6 arg7 arg8 arg9 ∗ (hv c arg10 a10 ∗ hv c arg11 a11) ∗ owes (c : Thread nD τ) 0 W)
      ∗ ((ringAt c X ((i 0).val + 1) ∗ wtIs c wv ∗ hv c arg2 w2 ∗ hv c arg3 w3 ∗ hv c arg4 b4
          ∗ wrote c arg5 arg6 arg7 arg8 arg9 arg10 arg11 (lgAt c X (i 0).val wv) (lrAt c X (i 0).val wv) b4 b5 (cntStep (F := F) (lrAt c X (i 0).val wv) b4 a10) (impStep (lgAt c X (i 0).val wv) b5 a11) ∗ (∃ W', owes (c : Thread nD τ) 0 W')) -∗ Q ⟨⟩))
      ⊢ wp frame (wpE (defs₀ (F := F)) 𝒱₀ (c : Thread nD τ) none) Set.univ (cc0__body (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3) Q := by
  irw [body_eq]
  iintro ⟨⟨HR, Hwt, H2, H3, H4, H5, HO, ⟨H10, H11⟩, HW⟩, Hk⟩
  irw [wp_bind]
  unfold wtIs
  icases Hwt with ⟨%wt, %ewt, Hwt⟩
  unfold hv owns
  icases H4 with ⟨%f4, %e4, H4⟩
  ihave HR' := (ring_mid_open c X _ h1 h11) $$ HR
  icases HR' with ⟨L, F, A, HR⟩
  iapply (fill_mid c X i arg2 harg2 arg3 harg3 arg4 harg4 arg5 harg5 arg6 harg6 arg7 harg7 arg8 harg8 arg9 harg9 arg10 harg10 arg11 harg11 arg12 harg12 arg13 harg13 c1 c2 h11 wt f4 W)
  isplitl [L F A Hwt H4 HW]
  · isplitl [L]; · iexact L
    isplitl [F]; · iexact F
    isplitl [A]; · iexact A
    isplitl [Hwt]; · iexact Hwt
    isplitl [H4]; · iexact H4
    iexact HW
  iintro ⟨L, F, A, Hwt, H4, HW⟩
  irw [ewt, rd4_of c arg4 e4]
  iapply (rest_mid c i arg2 harg2 arg3 harg3 arg4 harg4 arg5 harg5 arg6 harg6 arg7 harg7 arg8 harg8 arg9 harg9 arg10 harg10 arg11 harg11 arg12 harg12 arg13 harg13 (lgAt c X (i 0).val wv) (lrAt c X (i 0).val wv) b4 (BitVec.ofNat 32 (i 0).val) c3 c4 b5 a10 a11)
  isplitl [H5 HO H10 H11]
  · unfold hv owns
    isplitl [H5]; · iexact H5
    isplitl [HO]; · iexact HO
    isplitl [H10]; · iexact H10
    iexact H11
  iintro HWR
  iapply Hk
  isplitl [L F A HR]
  · iapply (ring_mid_close c X _ h1 h11)
    isplitl [L]; · iexact L
    isplitl [F]; · iexact F
    isplitl [A]; · iexact A
    iexact HR
  isplitl [Hwt]
  · iexists wt; isplitr; · ipureintro; exact ewt
    iexact Hwt
  isplitl [H2]; · iexact H2
  isplitl [H3]; · iexact H3
  isplitl [H4]
  · iexists f4; isplitr; · ipureintro; exact e4
    iexact H4
  isplitl [HWR]; · iexact HWR
  iexact HW

theorem point_tail (h1 : 1 ≤ (i 0).val) (c1 : ¬ k0_cond1 i = 1#1) (c2 : ¬ k0_cond2 i = 1#1) (h11 : ¬ (i 0).val + 11 < 32) (c3 : ¬ Scalar.cmpi .ne (Scalar.extui (Scalar.cmpi .eq (BitVec.ofNat 32 (i 0).val) 0#32) : BitVec 32) 0#32 = 1#1) (c4 : ¬ k0_cond4 i = 1#1) (w2 w3 : S16x2048.Idx → Elt F .f32) (b4 b5 : S1x16.Idx → Elt F .f32) (wv : FVec F S2048x32 .f32) (a10 a11 : S16x1.Idx → Elt F .f32) (W) (Q) :
    iprop((ringAt c X (i 0).val ∗ wtIs c wv ∗ hv c arg2 w2 ∗ hv c arg3 w3 ∗ hv c arg4 b4 ∗ hv c arg5 b5 ∗ outs c arg6 arg7 arg8 arg9 ∗ (hv c arg10 a10 ∗ hv c arg11 a11) ∗ owes (c : Thread nD τ) 0 W)
      ∗ ((ringAt c X ((i 0).val + 1) ∗ wtIs c wv ∗ hv c arg2 w2 ∗ hv c arg3 w3 ∗ hv c arg4 b4
          ∗ wrote c arg5 arg6 arg7 arg8 arg9 arg10 arg11 (lgAt c X (i 0).val wv) (lrAt c X (i 0).val wv) b4 b5 (cntStep (F := F) (lrAt c X (i 0).val wv) b4 a10) (impStep (lgAt c X (i 0).val wv) b5 a11) ∗ (∃ W', owes (c : Thread nD τ) 0 W')) -∗ Q ⟨⟩))
      ⊢ wp frame (wpE (defs₀ (F := F)) 𝒱₀ (c : Thread nD τ) none) Set.univ (cc0__body (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3) Q := by
  irw [body_eq]
  iintro ⟨⟨HR, Hwt, H2, H3, H4, H5, HO, ⟨H10, H11⟩, HW⟩, Hk⟩
  irw [wp_bind]
  unfold wtIs
  icases Hwt with ⟨%wt, %ewt, Hwt⟩
  unfold hv owns
  icases H4 with ⟨%f4, %e4, H4⟩
  ihave HR' := (ring_tail_open c X _ h1 h11 (i 0).isLt) $$ HR
  icases HR' with ⟨L, HR⟩
  iapply (fill_tail c X i arg2 harg2 arg3 harg3 arg4 harg4 arg5 harg5 arg6 harg6 arg7 harg7 arg8 harg8 arg9 harg9 arg10 harg10 arg11 harg11 arg12 harg12 arg13 harg13 c1 c2 wt f4 W)
  isplitl [L Hwt H4 HW]
  · isplitl [L]; · iexact L
    isplitl [Hwt]; · iexact Hwt
    isplitl [H4]; · iexact H4
    iexact HW
  iintro ⟨F, A, Hwt, H4, HW⟩
  irw [ewt, rd4_of c arg4 e4]
  iapply (rest_mid c i arg2 harg2 arg3 harg3 arg4 harg4 arg5 harg5 arg6 harg6 arg7 harg7 arg8 harg8 arg9 harg9 arg10 harg10 arg11 harg11 arg12 harg12 arg13 harg13 (lgAt c X (i 0).val wv) (lrAt c X (i 0).val wv) b4 (BitVec.ofNat 32 (i 0).val) c3 c4 b5 a10 a11)
  isplitl [H5 HO H10 H11]
  · unfold hv owns
    isplitl [H5]; · iexact H5
    isplitl [HO]; · iexact HO
    isplitl [H10]; · iexact H10
    iexact H11
  iintro HWR
  iapply Hk
  isplitl [F A HR]
  · iapply (ring_tail_close c X _ h1 h11 (i 0).isLt)
    isplitl [F]; · iexact F
    isplitl [A]; · iexact A
    iexact HR
  isplitl [Hwt]
  · iexists wt; isplitr; · ipureintro; exact ewt
    iexact Hwt
  isplitl [H2]; · iexact H2
  isplitl [H3]; · iexact H3
  isplitl [H4]
  · iexists f4; isplitr; · ipureintro; exact e4
    iexact H4
  isplitl [HWR]; · iexact HWR
  iexact HW

theorem point_last (h1 : 1 ≤ (i 0).val) (c1 : ¬ k0_cond1 i = 1#1) (c2 : ¬ k0_cond2 i = 1#1) (h11 : ¬ (i 0).val + 11 < 32) (c3 : ¬ Scalar.cmpi .ne (Scalar.extui (Scalar.cmpi .eq (BitVec.ofNat 32 (i 0).val) 0#32) : BitVec 32) 0#32 = 1#1) (c4 : k0_cond4 i = 1#1) (w2 w3 : S16x2048.Idx → Elt F .f32) (b4 b5 : S1x16.Idx → Elt F .f32) (wv : FVec F S2048x32 .f32) (a10 a11 : S16x1.Idx → Elt F .f32) (W) (Q) :
    iprop((ringAt c X (i 0).val ∗ wtIs c wv ∗ hv c arg2 w2 ∗ hv c arg3 w3 ∗ hv c arg4 b4 ∗ hv c arg5 b5 ∗ outs c arg6 arg7 arg8 arg9 ∗ (hv c arg10 a10 ∗ hv c arg11 a11 ∗ (∃ v, hv c arg12 v) ∗ (∃ v, hv c arg13 v)) ∗ owes (c : Thread nD τ) 0 W)
      ∗ ((ringAt c X ((i 0).val + 1) ∗ wtIs c wv ∗ hv c arg2 w2 ∗ hv c arg3 w3 ∗ hv c arg4 b4
          ∗ wrote c arg5 arg6 arg7 arg8 arg9 arg10 arg11 (lgAt c X (i 0).val wv) (lrAt c X (i 0).val wv) b4 b5 (cntStep (F := F) (lrAt c X (i 0).val wv) b4 a10) (impStep (lgAt c X (i 0).val wv) b5 a11) ∗ hv c arg12 (k0_pay1 (cntStep (F := F) (lrAt c X (i 0).val wv) b4 a10)) ∗ hv c arg13 (k0_pay2 (impStep (lgAt c X (i 0).val wv) b5 a11)) ∗ (∃ W', owes (c : Thread nD τ) 0 W')) -∗ Q ⟨⟩))
      ⊢ wp frame (wpE (defs₀ (F := F)) 𝒱₀ (c : Thread nD τ) none) Set.univ (cc0__body (F := F) i xM (Memref.isWhole_whole _) arg2 harg2 arg3 harg3 arg4 harg4 arg5 harg5 arg6 harg6 arg7 harg7 arg8 harg8 arg9 harg9 arg10 harg10 arg11 harg11 arg12 harg12 arg13 harg13 ringM (Memref.isWhole_whole _) wtM (Memref.isWhole_whole _) cc0_scratch2 cc0_scratch3) Q := by
  irw [body_eq]
  iintro ⟨⟨HR, Hwt, H2, H3, H4, H5, HO, ⟨H10, H11, H12, H13⟩, HW⟩, Hk⟩
  irw [wp_bind]
  unfold wtIs
  icases Hwt with ⟨%wt, %ewt, Hwt⟩
  unfold hv owns
  icases H4 with ⟨%f4, %e4, H4⟩
  ihave HR' := (ring_tail_open c X _ h1 h11 (i 0).isLt) $$ HR
  icases HR' with ⟨L, HR⟩
  iapply (fill_tail c X i arg2 harg2 arg3 harg3 arg4 harg4 arg5 harg5 arg6 harg6 arg7 harg7 arg8 harg8 arg9 harg9 arg10 harg10 arg11 harg11 arg12 harg12 arg13 harg13 c1 c2 wt f4 W)
  isplitl [L Hwt H4 HW]
  · isplitl [L]; · iexact L
    isplitl [Hwt]; · iexact Hwt
    isplitl [H4]; · iexact H4
    iexact HW
  iintro ⟨F, A, Hwt, H4, HW⟩
  irw [ewt, rd4_of c arg4 e4]
  iapply (rest_last c i arg2 harg2 arg3 harg3 arg4 harg4 arg5 harg5 arg6 harg6 arg7 harg7 arg8 harg8 arg9 harg9 arg10 harg10 arg11 harg11 arg12 harg12 arg13 harg13 (lgAt c X (i 0).val wv) (lrAt c X (i 0).val wv) b4 (BitVec.ofNat 32 (i 0).val) c3 c4 b5 a10 a11)
  isplitl [H5 HO H10 H11 H12 H13]
  · unfold hv owns
    isplitl [H5]; · iexact H5
    isplitl [HO]; · iexact HO
    isplitl [H10]; · iexact H10
    isplitl [H11]; · iexact H11
    isplitl [H12]; · iexact H12
    iexact H13
  iintro ⟨HWR, H12, H13⟩
  unfold hv owns
  iapply Hk
  isplitl [F A HR]
  · iapply (ring_tail_close c X _ h1 h11 (i 0).isLt)
    isplitl [F]; · iexact F
    isplitl [A]; · iexact A
    iexact HR
  isplitl [Hwt]
  · iexists wt; isplitr; · ipureintro; exact ewt
    iexact Hwt
  isplitl [H2]; · iexact H2
  isplitl [H3]; · iexact H3
  isplitl [H4]
  · iexists f4; isplitr; · ipureintro; exact e4
    iexact H4
  isplitl [HWR]; · iexact HWR
  isplitl [H12]; · iexact H12
  isplitl [H13]; · iexact H13
  iexact HW

end Point

end Cert.Router.KernelIdeal

end
-- ==== Proof.Data.lean ====
/-
  The pipeline's proof data: what every window holds after every point, the state between points, and the body's
  obligation at a point.
-/
module

public import proofs.«01_k».proof.Proof.Point
public import proofs.«01_k».proof.Proof.Gen.KernelIdeal.Frame

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The grid's points -/

theorem coords_val : ∀ t : Fin cfg0.N, (grid0.coords t 0).val = t.val := by decide +kernel
theorem at_cond1 : ∀ t : Fin cfg0.N, k0_cond1 (grid0.coords t) = 1#1 ↔ t.val = 0 := by decide +kernel
theorem at_cond2 : ∀ t : Fin cfg0.N, k0_cond2 (grid0.coords t) = 1#1 ↔ t.val + 11 < 32 := by decide +kernel
theorem at_cond3 : ∀ t : Fin cfg0.N, Scalar.cmpi .ne (Scalar.extui (Scalar.cmpi .eq (BitVec.ofNat 32 (grid0.coords t 0).val) 0#32) : BitVec 32) 0#32 = 1#1 ↔ t.val = 0 := by
  decide +kernel
theorem at_cond4 : ∀ t : Fin cfg0.N, k0_cond4 (grid0.coords t) = 1#1 ↔ t.val = 31 := by decide +kernel

/-- The grid's point `n`. -/
def pt (n : ℕ) : Fin cfg0.N := ⟨n % 32, by rw [show cfg0.N = 32 from by decide]; omega⟩
theorem pt_val (t : Fin cfg0.N) : pt t.val = t := by
  have h : t.val < 32 := t.isLt
  apply Fin.ext; show t.val % 32 = t.val; omega

section Data
variable (m : (ℓ : Loc nD τ sig) → Buf (Elt F) ℓ) (ρ : Dev nD → PrngReg) (c : Dev nD)

/-- `x` as the region finds it. -/
abbrev XV : Buf (Elt F) (xM.view.loc (c : Thread nD τ)) := V m c main_v0
/-- The weights side by side, as the first point leaves them. -/
def wv : FVec F S2048x32 .f32 := k0_pay3 (iblk m c 0 (pt 0)) (iblk m c 1 (pt 0))
/-- The router's and the gate's biases at point `t`. -/
def brAt (t : Fin cfg0.N) : Vec F S1x16 .f32 := iblk m c 2 t
def bgAt (t : Fin cfg0.N) : Vec F S1x16 .f32 := iblk m c 3 t
/-- Point `n`'s products. -/
abbrev lg (n : ℕ) : FVec F S32x512 .f32 := lgAt c (XV m c) n (wv m c)
abbrev lr (n : ℕ) : FVec F S16x512 .f32 := lrAt c (XV m c) n (wv m c)
/-- The two sums after point `n`. -/
def cntAt : ℕ → (S16x1.Idx → Elt F .f32)
  | 0 => cntStep (lr m c 0) (brAt m c (pt 0)) k0_pay16
  | n + 1 => cntStep (lr m c (n + 1)) (brAt m c (pt (n + 1))) (cntAt n)
def impAt : ℕ → (S16x1.Idx → Elt F .f32)
  | 0 => impStep (lg m c 0) (bgAt m c (pt 0)) k0_pay17
  | n + 1 => impStep (lg m c (n + 1)) (bgAt m c (pt (n + 1))) (impAt n)

/-- The weights' buffer before point `p`: anything at first, then the weights. -/
def wtBefore : ℕ → sProp 𝕄
  | 0 => iprop(∃ wt, own c wtM wt)
  | _ + 1 => wtIs c (wv m c)
/-- The state before point `p`. -/
def stateAt (p : ℕ) : sProp 𝕄 := iprop(ringAt c (XV m c) p ∗ wtBefore m c p ∗ ∃ r, prngReg c r)

def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (lr m c t.val) (brAt m c t)
    | ⟨5, _⟩ => k0_pay13 (lr m c t.val) (brAt m c t)
    | ⟨6, _⟩ => k0_pay14 (lr m c t.val) (brAt m c t)
    | ⟨7, _⟩ => k0_pay15 (k0_pay7 (lg m c t.val) (bgAt m c t))
    | ⟨8, _⟩ => cntAt m c t.val
    | ⟨9, _⟩ => impAt m c t.val
    | ⟨10, _⟩ => k0_pay1 (cntAt m c t.val)
    | ⟨11, _⟩ => k0_pay2 (impAt m c t.val)
  Φ t := stateAt m c t.val
  q _ := fullShare
  owed _ := 0
theorem after_w0 (t : Fin cfg0.N) : (dats m 0 c).after 0 t = iblk m c 0 t := by dsimp only [dats]
theorem after_w1 (t : Fin cfg0.N) : (dats m 0 c).after 1 t = iblk m c 1 t := by dsimp only [dats]
theorem after_w2 (t : Fin cfg0.N) : (dats m 0 c).after 2 t = iblk m c 2 t := by dsimp only [dats]
theorem after_w3 (t : Fin cfg0.N) : (dats m 0 c).after 3 t = iblk m c 3 t := by dsimp only [dats]
theorem after_w4 (t : Fin cfg0.N) : (dats m 0 c).after 4 t = k0_pay6 (lr m c t.val) (brAt m c t) := by dsimp only [dats]
theorem after_w5 (t : Fin cfg0.N) : (dats m 0 c).after 5 t = k0_pay13 (lr m c t.val) (brAt m c t) := by dsimp only [dats]
theorem after_w6 (t : Fin cfg0.N) : (dats m 0 c).after 6 t = k0_pay14 (lr m c t.val) (brAt m c t) := by dsimp only [dats]
theorem after_w7 (t : Fin cfg0.N) : (dats m 0 c).after 7 t = k0_pay15 (k0_pay7 (lg m c t.val) (bgAt m c t)) := by dsimp only [dats]
theorem after_w8 (t : Fin cfg0.N) : (dats m 0 c).after 8 t = cntAt m c t.val := by dsimp only [dats]
theorem after_w9 (t : Fin cfg0.N) : (dats m 0 c).after 9 t = impAt m c t.val := by dsimp only [dats]
theorem after_w10 (t : Fin cfg0.N) : (dats m 0 c).after 10 t = k0_pay1 (cntAt m c t.val) := by dsimp only [dats]
theorem after_w11 (t : Fin cfg0.N) : (dats m 0 c).after 11 t = k0_pay2 (impAt m c t.val) := by dsimp only [dats]
theorem before_w0 (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)
theorem before_w8 (t : Fin cfg0.N) (h1 : t.val ≠ 0) (d) : (dats m 0 c).before 8 t d = cntAt m c (t.val - 1) := by
  rw [Dat.before_of_pos _ 8 t h1 (by rfl) d, if_neg (by
    rw [Bool.not_eq_true, Bool.eq_false_iff, Ne, flush0_8]; have h : t.val < 32 := t.isLt; dsimp only; omega)]
  unfold Dat.left Dat.kept; rw [after_w8]; rfl
theorem before_w9 (t : Fin cfg0.N) (h1 : t.val ≠ 0) (d) : (dats m 0 c).before 9 t d = impAt m c (t.val - 1) := by
  rw [Dat.before_of_pos _ 9 t h1 (by rfl) d, if_neg (by
    rw [Bool.not_eq_true, Bool.eq_false_iff, Ne, flush0_9]; have h : t.val < 32 := t.isLt; dsimp only; omega)]
  unfold Dat.left Dat.kept; rw [after_w9]; rfl
theorem cntAt_zero (t : Fin cfg0.N) (h : t.val = 0) : cntAt m c t.val = cntStep (lr m c t.val) (brAt m c t) k0_pay16 := by
  have e : pt 0 = t := by rw [← h]; exact pt_val t
  rw [h]; show cntStep _ _ _ = _; rw [e]
theorem cntAt_succ (t : Fin cfg0.N) (h : t.val ≠ 0) : cntAt m c t.val = cntStep (lr m c t.val) (brAt m c t) (cntAt m c (t.val - 1)) := by
  obtain ⟨n, hn⟩ : ∃ n, t.val = n + 1 := ⟨t.val - 1, by omega⟩
  have e : pt (n + 1) = t := by rw [← hn]; exact pt_val t
  rw [hn]; show cntStep _ _ _ = _; rw [e]; rfl
theorem impAt_zero (t : Fin cfg0.N) (h : t.val = 0) : impAt m c t.val = impStep (lg m c t.val) (bgAt m c t) k0_pay17 := by
  have e : pt 0 = t := by rw [← h]; exact pt_val t
  rw [h]; show impStep _ _ _ = _; rw [e]
theorem impAt_succ (t : Fin cfg0.N) (h : t.val ≠ 0) : impAt m c t.val = impStep (lg m c t.val) (bgAt m c t) (impAt m c (t.val - 1)) := by
  obtain ⟨n, hn⟩ : ∃ n, t.val = n + 1 := ⟨t.val - 1, by omega⟩
  have e : pt (n + 1) = t := by rw [← hn]; exact pt_val t
  rw [hn]; show impStep _ _ _ = _; rw [e]; rfl

theorem idle_10 : ∀ t : Fin cfg0.N, idle0 10 (grid0.coords t) = decide (t.val ≠ 31) := by decide +kernel
theorem idle_11 : ∀ t : Fin cfg0.N, idle0 11 (grid0.coords t) = decide (t.val ≠ 31) := by decide +kernel
theorem noflush_10 (t : Fin cfg0.N) (h : t.val ≠ 31) : (cfg0.win 10).flush t = false := by
  rw [Bool.eq_false_iff, Ne, flush0_10]; have := (show t.val < 32 from t.isLt); omega
theorem noflush_11 (t : Fin cfg0.N) (h : t.val ≠ 31) : (cfg0.win 11).flush t = false := by
  rw [Bool.eq_false_iff, Ne, flush0_11]; have := (show t.val < 32 from t.isLt); omega

theorem defs_tc : (defs₀ (F := F)) .tc cfg0.body = fun a => cc0__body (grid0.coords a.1) (Memref.whole main_v0) (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) (win0_11.stage (a.2 11)) (hstage0_11 ((a.2 11).cast nbuf0_11)) (Memref.whole cc0_scratch0) (Memref.isWhole_whole _) (Memref.whole cc0_scratch1) (Memref.isWhole_whole _) cc0_scratch2 cc0_scratch3 := rfl
theorem prog_eq (t : Fin cfg0.N) : (defs₀ (F := F)) .tc cfg0.body (cfg0.bodyArgs t (cfg0.slots t)) = bodyAt0 t := (congrFun defs_tc _).trans rfl

theorem wt_pos (n : ℕ) (h : n ≠ 0) : (wtBefore m c n : sProp 𝕄) ⊢ wtIs c (wv m c) := by
  obtain ⟨k, rfl⟩ : ∃ k, n = k + 1 := ⟨n - 1, by omega⟩
  exact Entails.refl _

set_option backward.isDefEq.respectTransparency.types false in
set_option maxHeartbeats 1600000 in
theorem step_first (t : Fin cfg0.N) (h0 : t.val = 0) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true => owns (c : Thread nD τ) ((cfg0.win w).stage (cfg0.slots t w)) fullShare ((dats m 0 c).after w t)
                  | false => owns (c : Thread nD τ) ((cfg0.win w).stage (cfg0.slots t w)) fullShare ((dats m 0 c).after w t)) := by
  have hv := coords_val t
  have h31 : t.val ≠ 31 := by omega
  have h11 : t.val + 11 < 32 := by omega
  have e10 : idle0 10 (grid0.coords t) = true := by rw [idle_10]; exact decide_eq_true h31
  have e11 : idle0 11 (grid0.coords t) = true := by rw [idle_11]; exact decide_eq_true h31
  have f10 := noflush_10 t h31
  have f11 := noflush_11 t h31
  rw [bigSep_W0, bigSep_W0]
  dsimp only
  simp only [e10, e11, f10, f11, before_w0, before_w1, before_w2, before_w3, after_w0, after_w1, after_w2, after_w3, after_w4, after_w5, after_w6, after_w7, after_w8, after_w9]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  unfold stateAt
  iintro ⟨⟨HR, Hwt, HP⟩, ⟨%W, -, HW⟩, ⟨%d0, w0⟩, ⟨%d1, w1⟩, ⟨%d2, w2⟩, ⟨%d3, w3⟩, w4, w5, w6, w7, w8, w9, w10, w11⟩
  sl_rw [prog_eq t]
  iapply (point_first c (XV m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (hv.trans h0) ((at_cond1 t).mpr h0) ((at_cond2 t).mpr h11) (by rw [hv]; exact h11) ((at_cond3 t).mpr h0) (fun h => h31 ((at_cond4 t).mp h)) (iblk m c 0 t) (iblk m c 1 t) (brAt m c t) (bgAt m c t) W)
  irw [hv, show k0_pay3 (iblk m c 0 t) (iblk m c 1 t) = wv m c from by unfold wv; rw [← h0, pt_val]]
  isplitl [HR Hwt w0 w1 w2 w3 w4 w5 w6 w7 w8 w9 HW]
  · isplitl [HR]; · iexact HR
    isplitl [Hwt]
    · iapply (show (wtBefore m c t.val : sProp 𝕄) ⊢ iprop(∃ wt, own c wtM wt) from by rw [h0]; exact Entails.refl _); iexact Hwt
    isplitl [w0]; · iexact w0
    isplitl [w1]; · iexact w1
    isplitl [w2]; · iexact w2
    isplitl [w3]; · iexact w3
    isplitl [w4 w5 w6 w7]
    · unfold outs
      isplitl [w4]; · icases w4 with ⟨%d, w4⟩; iexists _; iexact w4
      isplitl [w5]; · icases w5 with ⟨%d, w5⟩; iexists _; iexact w5
      isplitl [w6]; · icases w6 with ⟨%d, w6⟩; iexists _; iexact w6
      icases w7 with ⟨%d, w7⟩; iexists _; iexact w7
    isplitl [w8 w9]
    · isplitl [w8]; · icases w8 with ⟨%d, w8⟩; iexists _; iexact w8
      icases w9 with ⟨%d, w9⟩; iexists _; iexact w9
    iexact HW
  iintro ⟨HR, Hwt, w0, w1, w2, ⟨w3, w4, w5, w6, w7, w8, w9⟩, ⟨%W', HW⟩⟩
  isplitl [HR Hwt HP]
  · isplitl [HR]; · iexact HR
    isplitl [Hwt]
    · iapply (show (wtIs c (wv m c) : sProp 𝕄) ⊢ wtBefore m c (t.val + 1) from Entails.refl _); iexact Hwt
    iexact HP
  isplitl [HW]
  · iexists W'; isplitr; · ipureintro; exact fun _ _ => Or.inl trivial
    iexact HW
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · irw [cntAt_zero m c t h0]; iexact w8
  isplitl [w9]; · irw [impAt_zero m c t h0]; iexact w9
  isplitl [w10]; · iexact w10
  iexact w11

set_option backward.isDefEq.respectTransparency.types false in
set_option maxHeartbeats 1600000 in
theorem step_mid (t : Fin cfg0.N) (h0 : t.val ≠ 0) (h11 : t.val + 11 < 32) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true => owns (c : Thread nD τ) ((cfg0.win w).stage (cfg0.slots t w)) fullShare ((dats m 0 c).after w t)
                  | false => owns (c : Thread nD τ) ((cfg0.win w).stage (cfg0.slots t w)) fullShare ((dats m 0 c).after w t)) := by
  have hv := coords_val t
  have h31 : t.val ≠ 31 := by omega
  have e10 : idle0 10 (grid0.coords t) = true := by rw [idle_10]; exact decide_eq_true h31
  have e11 : idle0 11 (grid0.coords t) = true := by rw [idle_11]; exact decide_eq_true h31
  have f10 := noflush_10 t h31
  have f11 := noflush_11 t h31
  rw [bigSep_W0, bigSep_W0]
  dsimp only
  simp only [e10, e11, f10, f11, before_w0, before_w1, before_w2, before_w3, after_w0, after_w1, after_w2, after_w3, after_w4, after_w5, after_w6, after_w7, after_w8, after_w9]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  unfold stateAt
  iintro ⟨⟨HR, Hwt, HP⟩, ⟨%W, -, HW⟩, ⟨%d0, w0⟩, ⟨%d1, w1⟩, ⟨%d2, w2⟩, ⟨%d3, w3⟩, w4, w5, w6, w7, w8, w9, w10, w11⟩
  sl_rw [prog_eq t]
  iapply (point_mid c (XV m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (by rw [hv]; omega) (fun h => h0 ((at_cond1 t).mp h)) ((at_cond2 t).mpr h11) (by rw [hv]; exact h11) (fun h => h0 ((at_cond3 t).mp h)) (fun h => h31 ((at_cond4 t).mp h)) (iblk m c 0 t) (iblk m c 1 t) (brAt m c t) (bgAt m c t) (wv m c) (cntAt m c (t.val - 1)) (impAt m c (t.val - 1)) W)
  irw [hv]
  isplitl [HR Hwt w0 w1 w2 w3 w4 w5 w6 w7 w8 w9 HW]
  · isplitl [HR]; · iexact HR
    isplitl [Hwt]
    · iapply (wt_pos m c t.val h0); iexact Hwt
    isplitl [w0]; · iexact w0
    isplitl [w1]; · iexact w1
    isplitl [w2]; · iexact w2
    isplitl [w3]; · iexact w3
    isplitl [w4 w5 w6 w7]
    · unfold outs
      isplitl [w4]; · icases w4 with ⟨%d, w4⟩; iexists _; iexact w4
      isplitl [w5]; · icases w5 with ⟨%d, w5⟩; iexists _; iexact w5
      isplitl [w6]; · icases w6 with ⟨%d, w6⟩; iexists _; iexact w6
      icases w7 with ⟨%d, w7⟩; iexists _; iexact w7
    isplitl [w8 w9]
    · isplitl [w8]
      · icases w8 with ⟨%d, w8⟩; irw [← before_w8 m c t h0 d]; iexact w8
      icases w9 with ⟨%d, w9⟩; irw [← before_w9 m c t h0 d]; iexact w9
    iexact HW
  iintro ⟨HR, Hwt, w0, w1, w2, ⟨w3, w4, w5, w6, w7, w8, w9⟩, ⟨%W', HW⟩⟩
  isplitl [HR Hwt HP]
  · isplitl [HR]; · iexact HR
    isplitl [Hwt]
    · iapply (show (wtIs c (wv m c) : sProp 𝕄) ⊢ wtBefore m c (t.val + 1) from Entails.refl _); iexact Hwt
    iexact HP
  isplitl [HW]
  · iexists W'; isplitr; · ipureintro; exact fun _ _ => Or.inl trivial
    iexact HW
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · irw [cntAt_succ m c t h0]; iexact w8
  isplitl [w9]; · irw [impAt_succ m c t h0]; iexact w9
  isplitl [w10]; · iexact w10
  iexact w11

set_option backward.isDefEq.respectTransparency.types false in
set_option maxHeartbeats 1600000 in
theorem step_tail (t : Fin cfg0.N) (h0 : t.val ≠ 0) (h11 : ¬ t.val + 11 < 32) (h31 : t.val ≠ 31) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true => owns (c : Thread nD τ) ((cfg0.win w).stage (cfg0.slots t w)) fullShare ((dats m 0 c).after w t)
                  | false => owns (c : Thread nD τ) ((cfg0.win w).stage (cfg0.slots t w)) fullShare ((dats m 0 c).after w t)) := by
  have hv := coords_val t
  have e10 : idle0 10 (grid0.coords t) = true := by rw [idle_10]; exact decide_eq_true h31
  have e11 : idle0 11 (grid0.coords t) = true := by rw [idle_11]; exact decide_eq_true h31
  have f10 := noflush_10 t h31
  have f11 := noflush_11 t h31
  rw [bigSep_W0, bigSep_W0]
  dsimp only
  simp only [e10, e11, f10, f11, before_w0, before_w1, before_w2, before_w3, after_w0, after_w1, after_w2, after_w3, after_w4, after_w5, after_w6, after_w7, after_w8, after_w9]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  unfold stateAt
  iintro ⟨⟨HR, Hwt, HP⟩, ⟨%W, -, HW⟩, ⟨%d0, w0⟩, ⟨%d1, w1⟩, ⟨%d2, w2⟩, ⟨%d3, w3⟩, w4, w5, w6, w7, w8, w9, w10, w11⟩
  sl_rw [prog_eq t]
  iapply (point_tail c (XV m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (by rw [hv]; omega) (fun h => h0 ((at_cond1 t).mp h)) (fun h => h11 ((at_cond2 t).mp h)) (by rw [hv]; exact h11) (fun h => h0 ((at_cond3 t).mp h)) (fun h => h31 ((at_cond4 t).mp h)) (iblk m c 0 t) (iblk m c 1 t) (brAt m c t) (bgAt m c t) (wv m c) (cntAt m c (t.val - 1)) (impAt m c (t.val - 1)) W)
  irw [hv]
  isplitl [HR Hwt w0 w1 w2 w3 w4 w5 w6 w7 w8 w9 HW]
  · isplitl [HR]; · iexact HR
    isplitl [Hwt]
    · iapply (wt_pos m c t.val h0); iexact Hwt
    isplitl [w0]; · iexact w0
    isplitl [w1]; · iexact w1
    isplitl [w2]; · iexact w2
    isplitl [w3]; · iexact w3
    isplitl [w4 w5 w6 w7]
    · unfold outs
      isplitl [w4]; · icases w4 with ⟨%d, w4⟩; iexists _; iexact w4
      isplitl [w5]; · icases w5 with ⟨%d, w5⟩; iexists _; iexact w5
      isplitl [w6]; · icases w6 with ⟨%d, w6⟩; iexists _; iexact w6
      icases w7 with ⟨%d, w7⟩; iexists _; iexact w7
    isplitl [w8 w9]
    · isplitl [w8]
      · icases w8 with ⟨%d, w8⟩; irw [← before_w8 m c t h0 d]; iexact w8
      icases w9 with ⟨%d, w9⟩; irw [← before_w9 m c t h0 d]; iexact w9
    iexact HW
  iintro ⟨HR, Hwt, w0, w1, w2, ⟨w3, w4, w5, w6, w7, w8, w9⟩, ⟨%W', HW⟩⟩
  isplitl [HR Hwt HP]
  · isplitl [HR]; · iexact HR
    isplitl [Hwt]
    · iapply (show (wtIs c (wv m c) : sProp 𝕄) ⊢ wtBefore m c (t.val + 1) from Entails.refl _); iexact Hwt
    iexact HP
  isplitl [HW]
  · iexists W'; isplitr; · ipureintro; exact fun _ _ => Or.inl trivial
    iexact HW
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · irw [cntAt_succ m c t h0]; iexact w8
  isplitl [w9]; · irw [impAt_succ m c t h0]; iexact w9
  isplitl [w10]; · iexact w10
  iexact w11

set_option backward.isDefEq.respectTransparency.types false in
set_option maxHeartbeats 1600000 in
theorem step_last (t : Fin cfg0.N) (h31 : t.val = 31) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m 0 c).before w t d))
                    | true => owns (c : Thread nD τ) ((cfg0.win w).stage (cfg0.slots t w)) fullShare ((dats m 0 c).after w t)
                  | false => owns (c : Thread nD τ) ((cfg0.win w).stage (cfg0.slots t w)) fullShare ((dats m 0 c).after w t)) := by
  have hv := coords_val t
  have h0 : t.val ≠ 0 := by omega
  have h11 : ¬ t.val + 11 < 32 := by omega
  have e10 : idle0 10 (grid0.coords t) = false := by rw [idle_10]; exact decide_eq_false (fun h => h h31)
  have e11 : idle0 11 (grid0.coords t) = false := by rw [idle_11]; exact decide_eq_false (fun h => h h31)
  rw [bigSep_W0, bigSep_W0]
  dsimp only
  simp only [e10, e11, before_w0, before_w1, before_w2, before_w3, after_w0, after_w1, after_w2, after_w3, after_w4, after_w5, after_w6, after_w7, after_w8, after_w9, after_w10, after_w11]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  unfold stateAt
  iintro ⟨⟨HR, Hwt, HP⟩, ⟨%W, -, HW⟩, ⟨%d0, w0⟩, ⟨%d1, w1⟩, ⟨%d2, w2⟩, ⟨%d3, w3⟩, w4, w5, w6, w7, w8, w9, w10, w11⟩
  sl_rw [prog_eq t]
  iapply (point_last c (XV m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (by rw [hv]; omega) (fun h => h0 ((at_cond1 t).mp h)) (fun h => h11 ((at_cond2 t).mp h)) (by rw [hv]; exact h11) (fun h => h0 ((at_cond3 t).mp h)) ((at_cond4 t).mpr h31) (iblk m c 0 t) (iblk m c 1 t) (brAt m c t) (bgAt m c t) (wv m c) (cntAt m c (t.val - 1)) (impAt m c (t.val - 1)) W)
  irw [hv]
  isplitl [HR Hwt w0 w1 w2 w3 w4 w5 w6 w7 w8 w9 w10 w11 HW]
  · isplitl [HR]; · iexact HR
    isplitl [Hwt]
    · iapply (wt_pos m c t.val h0); iexact Hwt
    isplitl [w0]; · iexact w0
    isplitl [w1]; · iexact w1
    isplitl [w2]; · iexact w2
    isplitl [w3]; · iexact w3
    isplitl [w4 w5 w6 w7]
    · unfold outs
      isplitl [w4]; · icases w4 with ⟨%d, w4⟩; iexists _; iexact w4
      isplitl [w5]; · icases w5 with ⟨%d, w5⟩; iexists _; iexact w5
      isplitl [w6]; · icases w6 with ⟨%d, w6⟩; iexists _; iexact w6
      icases w7 with ⟨%d, w7⟩; iexists _; iexact w7
    isplitl [w8 w9 w10 w11]
    · isplitl [w8]
      · icases w8 with ⟨%d, w8⟩; irw [← before_w8 m c t h0 d]; iexact w8
      isplitl [w9]
      · icases w9 with ⟨%d, w9⟩; irw [← before_w9 m c t h0 d]; iexact w9
      isplitl [w10]; · icases w10 with ⟨%d, w10⟩; iexists _; iexact w10
      icases w11 with ⟨%d, w11⟩; iexists _; iexact w11
    iexact HW
  iintro ⟨HR, Hwt, w0, w1, w2, ⟨w3, w4, w5, w6, w7, w8, w9⟩, w10, w11, ⟨%W', HW⟩⟩
  isplitl [HR Hwt HP]
  · isplitl [HR]; · iexact HR
    isplitl [Hwt]
    · iapply (show (wtIs c (wv m c) : sProp 𝕄) ⊢ wtBefore m c (t.val + 1) from Entails.refl _); iexact Hwt
    iexact HP
  isplitl [HW]
  · iexists W'; isplitr; · ipureintro; exact fun _ _ => Or.inl trivial
    iexact HW
  isplitl [w0]; · iexact w0
  isplitl [w1]; · iexact w1
  isplitl [w2]; · iexact w2
  isplitl [w3]; · iexact w3
  isplitl [w4]; · iexact w4
  isplitl [w5]; · iexact w5
  isplitl [w6]; · iexact w6
  isplitl [w7]; · iexact w7
  isplitl [w8]; · irw [cntAt_succ m c t h0]; iexact w8
  isplitl [w9]; · irw [impAt_succ m c t h0]; iexact w9
  isplitl [w10]; · irw [cntAt_succ m c t h0]; iexact w10
  irw [impAt_succ m c t h0]; iexact w11

/-- The body's obligation: at every point, from what the windows hold before it to what they hold after it. -/
theorem body_obligation : BodyObligation (dats (F := F) m 0 c) (defs₀ (F := F)) 𝒱₀ () Set.univ := fun t => by
  have hlt : t.val < 32 := t.isLt
  by_cases h0 : t.val = 0
  · exact step_first m c t h0
  by_cases h11 : t.val + 11 < 32
  · exact step_mid m c t h0 h11
  by_cases h31 : t.val = 31
  · exact step_last m c t h31
  · exact step_tail m c t h0 h11 h31

end Data

end Cert.Router.KernelIdeal

end
-- ==== Proof.Run.lean ====
/-
  The launch: from any memory the kernel's program runs to its end, its counters back at zero, its arrays at the
  contents the pipeline's data state and its arguments as they were.
-/
module

public import proofs.«01_k».proof.Proof.Data

@[expose] public section

set_option maxRecDepth 16384

noncomputable section

namespace Cert.Router.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- The kernel's own counters: every slot's two cells. -/
abbrev osem : Fin 12 ⊕ Fin 12 → SemLoc sig
  | .inl s => .dma (smA s).sem
  | .inr s => .dma (smB s).sem
theorem ownSemFacts : Pipeline.OwnSemFacts spec0 osem := by decide +kernel
/-- The buffer the kernel reads by its own copies. -/
abbrev HX : Finset (Ref sig .tc) := {main_v0}
theorem HX_sub : HX ⊆ Pipeline.restRefs sig spec0 := by decide +kernel

section Launch
variable (m : (ℓ : Loc nD τ sig) → Buf (Elt F) ℓ) (ρ : Dev nD → PrngReg)

theorem sum_two {I J : Type} [Fintype I] [Fintype J] [DecidableEq I] [DecidableEq J] (Ψ : I ⊕ J → sProp 𝕄) :
    bigSep Finset.univ Ψ = iprop(bigSep Finset.univ (fun i => Ψ (.inl i)) ∗ bigSep Finset.univ (fun j => Ψ (.inr j))) := by
  rw [show (Finset.univ : Finset (I ⊕ J)) = (Finset.univ.map Function.Embedding.inl) ∪ (Finset.univ.map Function.Embedding.inr) from by
    ext x; cases x <;> simp]
  rw [sum_union (by
    rw [Finset.disjoint_left]; intro x h h'
    simp only [Finset.mem_map, Finset.mem_univ, _root_.true_and] at h h'
    obtain ⟨a, rfl⟩ := h; obtain ⟨b, hb⟩ := h'; exact nomatch hb)]
  rw [bigSep_map, bigSep_map]; rfl

/-- The kernel's own counters at zero are its slots' cells. -/
theorem ownSems0_eq (c : Dev nD) : (Pipeline.ownSems0 (Ix := Unit) (Name := ℕ) (U := UD sig nD τ) (Lvl := ℕ) (Val := Elt F) (τ := τ) osem c : sProp 𝕄)
    = cells0 c := by
  unfold Pipeline.ownSems0 cells0
  rw [sum_two, sum_sep]

theorem hmainD : Pipeline.HMainK (Ix := Unit) (Name := ℕ) (U := UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem wtM_at (c : Dev nD) (f) : (own c wtM f : sProp 𝕄) = ((c : Thread nD τ).loc cc0_scratch1 ↦{fullShare} f) :=
  congrArg (fun S => ((c : Thread nD τ).loc cc0_scratch1 ↦[S]{fullShare} f : sProp 𝕄)) (View.set_whole _)

theorem state_in (c : Dev nD) : Pipeline.ΦD osem spec0 HX (fun c b => V0 m c (Proc.devRef .tc b)) c ⊢ (dats m 0 c).Φ 0 := by
  rw [Pipeline.ΦD_eq, scopedRest0_eq, ownSems0_eq, bigSep_singleton, show (dats m 0 c).Φ 0 = stateAt m c 0 from rfl]
  unfold stateAt
  iintro ⟨⟨HB, ⟨%f, HW⟩⟩, HP, HC, HX⟩
  isplitl [HB HC HX]
  · iapply (ring_zero c (XV m c))
    isplitl [HX]
    · iapply (entails_of_eq (x_eq c (XV m c))); iexact HX
    iapply (buf_split c)
    isplitl [HB]; · iexact HB
    iexact HC
  isplitl [HW]
  · iapply (show iprop(∃ wt, own c wtM wt) ⊢ (wtBefore m c 0 : sProp 𝕄) from Entails.refl _)
    iexists f; iapply (entails_of_eq (wtM_at c f).symm); iexact HW
  iexact HP

theorem state_out (c : Dev nD) : (dats m 0 c).Φ (Fin.last cfg0.N) ⊢ Pipeline.ΦD osem spec0 HX (fun c b => V0 m c (Proc.devRef .tc b)) c := by
  rw [Pipeline.ΦD_eq, scopedRest0_eq, ownSems0_eq, bigSep_singleton, show (dats m 0 c).Φ (Fin.last cfg0.N) = stateAt m c 32 from rfl]
  unfold stateAt
  iintro ⟨HR, HW, HP⟩
  ihave H := (ring_last c (XV m c)) $$ HR
  icases H with ⟨HX, HF⟩
  ihave HF' := (buf_join c (ringBuf c (XV m c) 0)) $$ HF
  icases HF' with ⟨HB, HC⟩
  ihave HW' := (wt_pos m c 32 (by decide)) $$ HW
  unfold wtIs
  icases HW' with ⟨%wt, -, HW⟩
  isplitl [HB HW]
  · isplitl [HB]; · iexact HB
    iexists wt; iapply (entails_of_eq (wtM_at c wt)); iexact HW
  isplitl [HP]; · iexact HP
  isplitl [HC]; · iexact HC
  iapply (entails_of_eq (x_eq c (XV m c)).symm); iexact HX

theorem sfx_subD : ∀ ops ∈ ([hostOps1] : List (List (HloOp τ sig (Elt F)))), ∀ op ∈ ops,
    op.bufs ⊆ Pipeline.tailRefsBut sig Pipeline.Prefetch.none spec0 HX := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) fun b hb => ?_
  rw [Finset.mem_singleton] at hb; subst hb
  simp only [hostOps1, List.mem_cons, List.mem_nil_iff, or_false] at hop
  rcases hop with rfl | rfl | rfl | rfl | rfl | rfl | rfl | rfl | rfl | rfl
  all_goals
    simp only [StableHlo.unary_bufs, StableHlo.reshape_bufs, Finset.mem_insert, Finset.mem_singleton, not_or]
    repeat' apply And.intro
    all_goals exact StableHlo.devRef_ne_of_ne (by decide)

/-- The run. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HX HX_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := fun _ _ => rfl) (hin := state_in m) (hout := state_out m) (Q' := _) (hQ' := fun _ h => h)

theorem end_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem end_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem end_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The arguments end as they were. -/
theorem args_of {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (end_arg0 m c),
    ((h c).1 0).trans (((dats m 0 c).arrAt_in 0 rfl _).trans (V_main_arg1 m c)),
    ((h c).2 main_arg2 (Pipeline.mem_restRefs_of main_arg2 (by decide) (by decide))).trans (end_arg2 m c),
    ((h c).1 1).trans (((dats m 0 c).arrAt_in 1 rfl _).trans (V_main_arg3 m c)),
    ((h c).2 main_arg4 (Pipeline.mem_restRefs_of main_arg4 (by decide) (by decide))).trans (end_arg4 m c)⟩

theorem frame_run : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_of m h.1 c, h.2⟩) (run_main m ρ)

end Launch

end Cert.Router.KernelIdeal

end
-- ==== Proof.Frames.lean ====
/-
  The reference's frame: the host program runs to its end, leaves its arguments, and has no semaphore to leave
  anything in.
-/
module

public import proofs.«01_k».proof.Proof.Gen.ReferenceIdeal.Run
public import Idealize.ShloMosaic.Lib.Quiescent
public import Idealize.ShloMosaic.Adequacy
public import Idealize.ShloMosaic.Init

@[expose] public section

noncomputable section

namespace Cert.Router.ReferenceIdeal

open Idealize.ShloMosaic Idealize.SL.Sem Cert.ReferenceIdeal
open Idealize.ShloMosaic.TcCoe Idealize.ShloMosaic.StableHlo

variable {F : FTy → Type} [FloatOps F]

theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono
    (fun r h => ⟨fun c => (h c).2.2.2.2.2.2, sem_eq_zero_of_no_sems (by decide) r.2⟩) (Value.run m ρ)

end Cert.Router.ReferenceIdeal

end
-- ==== Proof.RefStages.lean ====
/-
  The reference's six results, stage by stage, as functions of its arguments, and the run of the reference read in them.
-/
module

public import proofs.«01_k».proof.Proof.Gen.ReferenceIdeal.Run
public import Idealize.ShloMosaic.Lib.Pointwise

@[expose] public section

set_option maxRecDepth 16384

noncomputable section

namespace Cert.Router.Ref

open Cert.ReferenceIdeal Cert.ReferenceIdeal.Facts₀ Idealize.ShloMosaic Idealize.SL.Sem
open Idealize.ShloMosaic.TcCoe

/-- `x · Wᵀ + b`. -/
def logits (x : FVec Ideal S4x4096x2048 .f32) (W : FVec Ideal S16x2048 .f32) (b : FVec Ideal S16 .f32) : FVec Ideal S4x4096x16 .f32 :=
  addf (Host.dotGeneral dot_S4x4096x2048_S16x2048_S4x4096x16_2_1_01_0_n_n none x W)
    (broadcastInDim S4x4096x16 ![0, 1, 2] bcast_S1x1x16_S4x4096x16_0_1_2 (broadcastInDim S1x1x16 ![2] bcast_S16_S1x1x16_2 b))

/-- The two greatest logits of each token and where they stand. -/
def top (l : FVec Ideal S4x4096x16 .f32) : FVec Ideal S4x4096x2 .f32 × IVec S4x4096x2 32 :=
  Host.topK S4x4096x2 2 (FloatOps.cmpfTotal .gt) l sliceFits_S4x4096x16_S4x4096x2

/-- The exponentials of a row less its maximum, two entries to the row. -/
def expo2 (v : FVec Ideal S4x4096x2 .f32) : FVec Ideal S4x4096x2 .f32 :=
  Host.exp (subf v (broadcastInDim S4x4096x2 ![0, 1, 2] bcast_S4x4096x1_S4x4096x2_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf v (constant S_ .f32 0xFF800000#32) reducesTo_S4x4096x2_S4x4096_d2 h_S_)))))
/-- Their softmax. -/
def soft2 (v : FVec Ideal S4x4096x2 .f32) : FVec Ideal S4x4096x2 .f32 :=
  Host.divf (expo2 v) (broadcastInDim S4x4096x2 ![0, 1, 2] bcast_S4x4096x1_S4x4096x2_0_1_2 (broadcastInDim S4x4096x1 ![0, 1] bcast_S4x4096_S4x4096x1_0_1
    (Host.reduceAdd (expo2 v) (constant S_ .f32 0x00000000#32) reducesTo_S4x4096x2_S4x4096_d2 h_S_)))

/-- The same of a row of sixteen. -/
def expo16 (v : FVec Ideal S4x4096x16 .f32) : FVec Ideal S4x4096x16 .f32 :=
  Host.exp (subf v (broadcastInDim S4x4096x16 ![0, 1, 2] bcast_S4x4096x1_S4x4096x16_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf v (constant S_ .f32 0xFF800000#32) reducesTo_S4x4096x16_S4x4096_d2 h_S_)))))
def soft16 (v : FVec Ideal S4x4096x16 .f32) : FVec Ideal S4x4096x16 .f32 :=
  Host.divf (expo16 v) (broadcastInDim S4x4096x16 ![0, 1, 2] bcast_S4x4096x1_S4x4096x16_0_1_2 (broadcastInDim S4x4096x1 ![0, 1] bcast_S4x4096_S4x4096x1_0_1
    (Host.reduceAdd (expo16 v) (constant S_ .f32 0x00000000#32) reducesTo_S4x4096x16_S4x4096_d2 h_S_)))

/-- A column of the chosen experts, as one list of all the tokens. -/
def col0 (i : IVec S4x4096x2 32) : IVec S16384 32 :=
  shapeCast S16384 (shapeCast S4x4096 (extractStridedSlice S4x4096x1 ![0, 0, 0] i slices_S4x4096x2_S4x4096x1_0_0_0) shapeCasts_S4x4096x1_S4x4096) shapeCasts_S4x4096_S16384
def col1 (i : IVec S4x4096x2 32) : IVec S16384 32 :=
  shapeCast S16384 (shapeCast S4x4096 (extractStridedSlice S4x4096x1 ![0, 0, 1] i slices_S4x4096x2_S4x4096x1_0_0_1) shapeCasts_S4x4096x1_S4x4096) shapeCasts_S4x4096_S16384
/-- The index list the counting scatter takes: negatives cut to zero, then wrapped (nothing is left to wrap). -/
def clip (i : IVec S16384 32) : IVec S16384 32 := maxsi (broadcastInDim S16384 ![] bcast_S_S16384 (id (constantI S_ 32 0#32))) i
def wrap (i : IVec S16384 32) : IVec S16384x1 32 :=
  broadcastInDim S16384x1 ![0] bcast_S16384_S16384x1_0
    (select (cmpi .slt (clip i) (broadcastInDim S16384 ![] bcast_S_S16384 (constantI S_ 32 0#32)))
      (addi (clip i) (broadcastInDim S16384 ![] bcast_S_S16384 (constantI S_ 32 16#32))) (clip i))
/-- How many tokens name each expert. -/
def hist (i : IVec S16384 32) : IVec S16 32 :=
  Host.scatter scatter_S16_S16384x1_S16384_n_0_0_1 IntOp.addi (broadcastInDim S16 ![] bcast_S_S16 (constantI S_ 32 0#32)) (wrap i)
    (broadcastInDim S16384 ![] bcast_S_S16384 (constantI S_ 32 1#32))
/-- The counts of both choices. -/
def counts (i : IVec S4x4096x2 32) : FVec Ideal S16 .f32 :=
  addf (addf (broadcastInDim S16 ![] bcast_S_S16 (constant S_ .f32 0x00000000#32)) (sitofp .f32 (hist (col0 i)))) (sitofp .f32 (hist (col1 i)))
/-- The balance loss of the counts. -/
def balance (n : FVec Ideal S16 .f32) : FVec Ideal S_ .f32 :=
  mulf (constant S_ .f32 0x3C23D70A#32) (subf (mulf (constant S_ .f32 0x41800000#32) (Host.reduceAdd
    (mulf (Host.divf n (broadcastInDim S16 ![] bcast_S_S16 (constant S_ .f32 0x46800000#32)))
      (Host.divf n (broadcastInDim S16 ![] bcast_S_S16 (constant S_ .f32 0x46800000#32))))
    (constant S_ .f32 0x00000000#32) reducesTo_S16_S_d0 h_S_)) (constant S_ .f32 0x3F800000#32))

/-- The gate values of all tokens added up, expert by expert. -/
def gathered (g : FVec Ideal S4x4096x16 .f32) : FVec Ideal S16 .f32 :=
  Host.reduceAdd g (constant S_ .f32 0x00000000#32) reducesTo_S4x4096x16_S16_d0_1 h_S_
def total (n : FVec Ideal S16 .f32) : FVec Ideal S_ .f32 := Host.reduceAdd n (constant S_ .f32 0x00000000#32) reducesTo_S16_S_d0 h_S_
/-- How far each expert's part is from an even one. -/
def uneven (n : FVec Ideal S16 .f32) : FVec Ideal S16 .f32 :=
  subf (select (broadcastInDim S16 ![] bcast_S_S16 (cmpf .ogt (total n) (constant S_ .f32 0x00000000#32)))
      (Host.divf n (broadcastInDim S16 ![] bcast_S_S16 (total n))) (broadcastInDim S16 ![] bcast_S_S16 (constant S_ .f32 0x00000000#32)))
    (Host.divf (broadcastInDim S16 ![] bcast_S_S16 (constant S_ .f32 0x3F800000#32)) (broadcastInDim S16 ![] bcast_S_S16 (constant S_ .f32 0x41800000#32)))
/-- The importance loss. -/
def importance (n : FVec Ideal S16 .f32) : FVec Ideal S_ .f32 :=
  mulf (constant S_ .f32 0x3C23D70A#32) (Host.reduceAdd (mulf (uneven n) (uneven n)) (constant S_ .f32 0x00000000#32) reducesTo_S16_S_d0 h_S_)

theorem balance_eq (m : (ℓ : Loc nD τ sig) → Buf (Elt Ideal) ℓ) (c : Dev nD) :
    Value.res_out4 m c = balance (counts (top (logits (m ((c.tc : Thread nD τ).loc main_arg0)) (m ((c.tc : Thread nD τ).loc main_arg1)) (m ((c.tc : Thread nD τ).loc main_arg2)))).2) := by
  unfold Value.res_out4 Value.res_main_v67; rfl
theorem importance_eq (m : (ℓ : Loc nD τ sig) → Buf (Elt Ideal) ℓ) (c : Dev nD) :
    Value.res_out5 m c = importance (gathered (soft16 (logits (m ((c.tc : Thread nD τ).loc main_arg0)) (m ((c.tc : Thread nD τ).loc main_arg3)) (m ((c.tc : Thread nD τ).loc main_arg4))))) := by
  unfold Value.res_out5 Value.res_main_v81; rfl

/-- The reference's run, its results named by their stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = logits (m ((c.tc : Thread nD τ).loc main_arg0)) (m ((c.tc : Thread nD τ).loc main_arg1)) (m ((c.tc : Thread nD τ).loc main_arg2))
      ∧ r.2.mem ((c.tc : Thread nD τ).loc main_indices) = (top (logits (m ((c.tc : Thread nD τ).loc main_arg0)) (m ((c.tc : Thread nD τ).loc main_arg1)) (m ((c.tc : Thread nD τ).loc main_arg2)))).2
      ∧ r.2.mem ((c.tc : Thread nD τ).loc main_v14) = soft2 (top (logits (m ((c.tc : Thread nD τ).loc main_arg0)) (m ((c.tc : Thread nD τ).loc main_arg1)) (m ((c.tc : Thread nD τ).loc main_arg2)))).1
      ∧ r.2.mem ((c.tc : Thread nD τ).loc main_v29) = soft16 (logits (m ((c.tc : Thread nD τ).loc main_arg0)) (m ((c.tc : Thread nD τ).loc main_arg3)) (m ((c.tc : Thread nD τ).loc main_arg4)))
      ∧ r.2.mem ((c.tc : Thread nD τ).loc main_v67) = balance (counts (top (logits (m ((c.tc : Thread nD τ).loc main_arg0)) (m ((c.tc : Thread nD τ).loc main_arg1)) (m ((c.tc : Thread nD τ).loc main_arg2)))).2)
      ∧ r.2.mem ((c.tc : Thread nD τ).loc main_v81) = importance (gathered (soft16 (logits (m ((c.tc : Thread nD τ).loc main_arg0)) (m ((c.tc : Thread nD τ).loc main_arg3)) (m ((c.tc : Thread nD τ).loc main_arg4)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2.1,
    (h c).2.2.2.2.1.trans (balance_eq m c), (h c).2.2.2.2.2.1.trans (importance_eq m c), (h c).2.2.2.2.2.2⟩) (Value.run m ρ)

end Cert.Router.Ref

end
-- ==== Proof.Spec.lean ====
/-
  The two greatest of sixteen extended reals: what a router's top-2 picks. `first v` and `second v` are the positions a stable
  descending sort puts in front, and the maxima, the masked maximum and the least-position searches are read off them.
-/
module

public import Idealize.ShloMosaic.Lib.Pointwise
public import Idealize.ShloMosaic.Lib.SortFacts
public import Idealize.ShloMosaic.Lib.PlanTiles.StableSort
public import Idealize.ShloMosaic.Lib.Routing.OpsPair

@[expose] public section

set_option maxRecDepth 16384

noncomputable section

namespace Cert.Router

open Idealize.ShloMosaic

/-- `a` comes before `b` in a stable descending sort of `v`. -/
def Before (v : Fin 16 → EReal) (a b : Fin 16) : Prop := v b < v a ∨ (v a = v b ∧ a < b)

/-- The comparison a sort of `v` is made with: the greater value first. -/
def above (v : Fin 16 → EReal) (a b : Fin 16) : Bool := FloatOps.cmpfTotal (F := Ideal) (φ := .f32) .gt (v a) (v b) == 1#1

/-- The greatest entry's position, the least such. -/
def first (v : Fin 16 → EReal) : Fin 16 := sortedFrom (above v) 0
/-- The next one's. -/
def second (v : Fin 16 → EReal) : Fin 16 := sortedFrom (above v) 1

/-- How many entries are below `a`'s: a natural number that orders the positions as `v` does. -/
def rank (v : Fin 16 → EReal) (a : Fin 16) : ℕ := (Finset.univ.filter fun c => v c < v a).card

theorem rank_lt {v : Fin 16 → EReal} {a b : Fin 16} (h : v b < v a) : rank v b < rank v a :=
  Finset.card_lt_card ⟨fun c hc => by simp only [Finset.mem_filter, Finset.mem_univ, true_and] at hc ⊢; exact hc.trans h,
    fun hs => by simpa using hs (Finset.mem_filter.mpr ⟨Finset.mem_univ b, h⟩)⟩

theorem rank_lt_iff (v : Fin 16 → EReal) (a b : Fin 16) : rank v b < rank v a ↔ v b < v a := by
  refine ⟨fun h => ?_, rank_lt⟩
  by_contra hn
  rcases lt_or_eq_of_le (not_lt.mp hn) with h' | h'
  · exact absurd (rank_lt h') (by omega)
  · unfold rank at h; rw [h'] at h; exact lt_irrefl _ h

theorem above_eq (v : Fin 16 → EReal) : above v = fun a b => decide (rank v b < rank v a) := by
  funext a b
  show (BitVec.ofBool (decide (v b < v a)) == 1#1) = _
  have := rank_lt_iff v a b
  by_cases h : v b < v a <;> simp [h, this]

theorem sorted_pairwise {n : ℕ} {B : Fin n → Fin n → Bool} {R : Fin n → Fin n → Prop} (h : (sortPositions n B).Pairwise R) (i j : Fin n)
    (hij : i < j) : R (sortedFrom B i) (sortedFrom B j) := by
  have hp : ∀ a b : Fin (sortPositions n B).length, a < b → R ((sortPositions n B).get a) ((sortPositions n B).get b) :=
    List.pairwise_iff_get.mp h
  unfold sortedFrom
  exact hp _ _ (by simp only [Fin.lt_def, Fin.val_cast]; exact hij)

theorem before_sorted (v : Fin 16 → EReal) (i j : Fin 16) (h : i < j) : Before v (sortedFrom (above v) i) (sortedFrom (above v) j) := by
  have hs : (sortPositions 16 (above v)).Pairwise (PlanTiles.Lex (rank v) (· < ·)) := by
    rw [above_eq]; exact PlanTiles.pairwise_stableSort_lex (rank v) (· < ·) (List.finRange 16) (List.pairwise_lt_finRange 16)
  have hb := sorted_pairwise hs i j h
  generalize sortedFrom (above v) i = a at hb ⊢
  generalize sortedFrom (above v) j = b at hb ⊢
  rcases hb with h1 | ⟨h1, h2⟩
  · exact Or.inl ((rank_lt_iff v _ _).mp h1)
  · refine Or.inr ⟨?_, h2⟩
    rcases lt_trichotomy (v a) (v b) with h3 | h3 | h3
    · exact absurd h1 (rank_lt h3).ne
    · exact h3
    · exact absurd h1 (rank_lt h3).ne'

/-- Every position other than the first comes after it. -/
theorem first_before (v : Fin 16 → EReal) (e : Fin 16) (h : e ≠ first v) : Before v (first v) e := by
  obtain ⟨j, rfl⟩ := sortedFrom_surjective (above v) e
  refine before_sorted v 0 j (Nat.pos_of_ne_zero fun hj => h ?_)
  rw [show j = 0 from Fin.ext hj]; rfl

theorem second_before (v : Fin 16 → EReal) (e : Fin 16) (h : e ≠ first v) (h' : e ≠ second v) : Before v (second v) e := by
  obtain ⟨j, rfl⟩ := sortedFrom_surjective (above v) e
  refine before_sorted v 1 j ?_
  have h0 : j ≠ 0 := fun hj => h (by rw [hj]; rfl)
  have h1 : j ≠ 1 := fun hj => h' (by rw [hj]; rfl)
  rw [Fin.lt_def]; rw [Ne, Fin.ext_iff] at h0 h1
  change 1 < j.val
  change ¬ j.val = 0 at h0
  change ¬ j.val = 1 at h1
  omega

theorem first_ne_second (v : Fin 16 → EReal) : first v ≠ second v := fun h =>
  absurd (sortedFrom_injective (above v) h) (by decide)

theorem le_first (v : Fin 16 → EReal) (e : Fin 16) : v e ≤ v (first v) := by
  by_cases h : e = first v
  · rw [h]
  · rcases first_before v e h with h | h
    · exact h.le
    · exact h.1.ge
theorem lt_first (v : Fin 16 → EReal) (e : Fin 16) (h : e < first v) : v e < v (first v) := by
  rcases first_before v e h.ne with h' | h'
  · exact h'
  · exact absurd (h.trans h'.2) (lt_irrefl _)
theorem le_second (v : Fin 16 → EReal) (e : Fin 16) (h : e ≠ first v) : v e ≤ v (second v) := by
  by_cases h' : e = second v
  · rw [h']
  · rcases second_before v e h h' with h | h
    · exact h.le
    · exact h.1.ge
theorem lt_second (v : Fin 16 → EReal) (e : Fin 16) (h : e ≠ first v) (h' : e < second v) : v e < v (second v) := by
  rcases second_before v e h h'.ne with h1 | h1
  · exact h1
  · exact absurd (h'.trans h1.2) (lt_irrefl _)

/-! ## Folds -/

theorem negInf_eq : Ideal.ofBits .f32 4286578688#32 = ⊥ := by
  simp only [Ideal.ofBits, Ideal.ieee]; rfl

/-- A fold of `max` from −∞ is an entry that none exceeds. -/
theorem fold_max_eq {n : ℕ} (w : Fin n → EReal) (a : Fin n) (h : ∀ e, w e ≤ w a) :
    Finset.fold max (Ideal.ofBits .f32 4286578688#32) w Finset.univ = w a := by
  rw [negInf_eq]
  exact le_antisymm ((Finset.fold_max_le _).mpr ⟨bot_le, fun e _ => h e⟩) ((Finset.le_fold_max _).mpr (Or.inr ⟨a, Finset.mem_univ _, le_rfl⟩))

theorem toInt_minsi (x y : BitVec 32) : (IntOp.minsi x y).toInt = min x.toInt y.toInt := by
  unfold IntOp.minsi
  by_cases h : x.toInt < y.toInt
  · rw [if_pos (by rw [BitVec.slt_iff_toInt_lt]; exact h), min_eq_left h.le]
  · rw [if_neg (by rw [BitVec.slt_iff_toInt_lt]; exact h), min_eq_right (not_lt.mp h)]

instance : Std.Commutative (IntOp.minsi (w := 32)) := ⟨fun x y => BitVec.eq_of_toInt_eq (by rw [toInt_minsi, toInt_minsi, min_comm])⟩
instance : Std.Associative (IntOp.minsi (w := 32)) := ⟨fun x y z => BitVec.eq_of_toInt_eq (by simp only [toInt_minsi, min_assoc])⟩

theorem toInt_small (n : ℕ) (h : n < 2 ^ 31) : (BitVec.ofNat 32 n).toInt = n := by
  rw [BitVec.toInt_ofNat', Int.bmod_eq_of_le] <;> omega

/-- The least position whose entry is `M`, found by a signed minimum of the positions' words. -/
theorem fold_min_eq (w : Fin 16 → EReal) (M : EReal) (a : Fin 16) (h : w a = M) (hl : ∀ e, e < a → w e ≠ M) (C : Std.Commutative (IntOp.minsi (w := 32)))
    (A : Std.Associative (IntOp.minsi (w := 32))) :
    Finset.fold IntOp.minsi 2147483647#32 (fun x : Fin 16 => if w x = M then BitVec.ofNat 32 x.val else 16#32) Finset.univ = BitVec.ofNat 32 a.val := by
  apply BitVec.eq_of_toInt_eq
  have hi : ∀ e : Fin 16, (BitVec.ofNat 32 e.val).toInt = e.val := fun e => toInt_small _ (by omega)
  rw [← Finset.fold_hom (op' := (min : ℤ → ℤ → ℤ)) (m := BitVec.toInt) toInt_minsi, hi,
    show (2147483647#32 : BitVec 32).toInt = 2147483647 from by decide]
  have ha := a.isLt
  apply le_antisymm
  · refine (Finset.fold_min_le _).mpr (Or.inr ⟨a, Finset.mem_univ _, ?_⟩)
    rw [if_pos h, hi]
  · refine (Finset.le_fold_min _).mpr ⟨by omega, fun x _ => ?_⟩
    split
    · next hx =>
      rw [hi]
      have : ¬ x < a := fun h' => hl x h' hx
      rw [Fin.lt_def] at this; omega
    · rw [show (16#32 : BitVec 32).toInt = 16 from by decide]; omega

/-! ## The masked second search -/

/-- `v` with its first entry put down to −∞. -/
def masked (v : Fin 16 → EReal) (e : Fin 16) : EReal := if e = first v then ⊥ else v e

theorem masked_second (v : Fin 16 → EReal) : masked v (second v) = v (second v) := if_neg (first_ne_second v).symm
theorem masked_le (v : Fin 16 → EReal) (e : Fin 16) : masked v e ≤ masked v (second v) := by
  rw [masked_second]; unfold masked; split
  · exact bot_le
  · next h => exact le_second v e h
theorem masked_lt (v : Fin 16 → EReal) (hv : ∀ e, v e ≠ ⊥) (e : Fin 16) (h : e < second v) : masked v e ≠ v (second v) := by
  unfold masked; split
  · exact (hv _).symm
  · next h' => exact (lt_second v e h' h).ne

/-! ## Constants and indicators -/

theorem one_sixteenth : Ideal.div 1 (Ideal.ofBits .f32 1098907648#32) = Ideal.ofBits .f32 1031798784#32 := by
  have h16 : Ideal.ofBits .f32 1098907648#32 = ((16 : ℝ) : EReal) := by
    simp only [Ideal.ofBits, Ideal.ieee]; simp; rw [← EReal.coe_mul]; norm_num
  have hu : Ideal.ofBits .f32 1031798784#32 = ((1 / 16 : ℝ) : EReal) := by
    simp only [Ideal.ofBits, Ideal.ieee]; simp; rw [← EReal.coe_mul]; norm_num
  rw [h16, hu, Ideal.div, if_neg (by norm_num), ← EReal.coe_inv, one_mul]; norm_num

theorem sitofp_bit (b : Bool) : FloatOps.sitofp (F := Ideal) (w := 32) .f32 (BitVec.setWidth 32 (BitVec.ofBool b)) = if b then (1 : EReal) else 0 := by
  cases b <;> simp [FloatOps.sitofp]

theorem word_eq_iff (a e : Fin 16) : BitVec.ofNat 32 e.val = BitVec.ofNat 32 a.val ↔ a = e := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this.symm

/-- A position's word compared with another's, as a number. -/
theorem hit_eq (a e : Fin 16) : FloatOps.sitofp (F := Ideal) .f32 (BitVec.setWidth 32 (IntOp.cmpi .eq (BitVec.ofNat 32 e.val) (BitVec.ofNat 32 a.val)))
    = if a = e then (1 : EReal) else 0 := by
  unfold IntOp.cmpi
  have := word_eq_iff a e
  dsimp only
  rw [sitofp_bit]
  by_cases h : a = e
  · simp [h]
  · rw [if_neg h, if_neg (by rw [beq_iff_eq, this]; exact h)]

theorem foldl_hits {ι : Type} (p : ι → Prop) [DecidablePred p] (l : List ι) (k : ℕ) :
    l.foldl (fun a n => if p n then IntOp.addi a 1#32 else a) (BitVec.ofNat 32 k) = BitVec.ofNat 32 (k + (l.map fun n => if p n then 1 else 0).sum) := by
  induction l generalizing k with
  | nil => simp
  | cons n l ih =>
    rw [List.foldl_cons, List.map_cons, List.sum_cons]
    by_cases h : p n
    · rw [if_pos h, if_pos h, show IntOp.addi (BitVec.ofNat 32 k) 1#32 = BitVec.ofNat 32 (k + 1) from (BitVec.ofNat_add k 1).symm, ih, add_assoc]
    · rw [if_neg h, if_neg h, ih, zero_add]

/-- A count kept in a 32-bit word and read as a number is the sum of its indicators, up to 2³¹ of them. -/
theorem sitofp_hits {ι : Type} [Fintype ι] (p : ι → Prop) [DecidablePred p] (h : Fintype.card ι < 2 ^ 31) :
    FloatOps.sitofp (F := Ideal) .f32 (BitVec.ofNat 32 (∑ n, if p n then 1 else 0)) = ∑ n, if p n then (1 : EReal) else 0 := by
  have hle : (∑ n : ι, if p n then 1 else 0) ≤ Fintype.card ι := by
    rw [← Finset.card_filter]; exact Finset.card_le_univ _
  show (((BitVec.ofNat 32 _).toInt : ℝ) : EReal) = _
  rw [toInt_small _ (by omega)]
  have : ∀ n : ℕ, ((((n : ℤ) : ℝ)) : EReal) = (n : EReal) := fun n => by simp
  rw [this, Nat.cast_sum]
  exact Finset.sum_congr rfl fun n _ => by split <;> simp

end Cert.Router

end
-- ==== Proof.Columns.lean ====
/-
  The kernel's blocks read at one token's column: the logits, the two experts picked, their gates, the gate distribution, and
  what a block adds to the two sums.
-/
module

public import proofs.«01_k».proof.Proof.Gen.KernelIdeal.Skeleton
public import proofs.«01_k».proof.Proof.Spec

@[expose] public section

set_option maxRecDepth 16384

noncomputable section

namespace Cert.Router.Columns

open Cert.KernelIdeal Cert.KernelIdeal.Gen Idealize.ShloMosaic

section Router
variable (l : FVec Ideal S16x512 .f32) (b : Vec Ideal S1x16 .f32) (j : Fin 512)

/-- Token `j`'s logits. -/
def col : Fin 16 → EReal := fun e => k0_pay6 l b (ix2 e j)

theorem col_apply (e : Fin 16) : col l b j e = l (ix2 e j) + b (ix2 0 e) := by
  unfold col; pointwise [k0_pay6]
theorem max_eq : k0_pay8 l b (ix2 0 j) = col l b j (first (col l b j)) := by
  pointwise [k0_pay8]
  exact fold_max_eq (col l b j) _ (le_first _)
theorem arg_eq : k0_pay9 l b (ix2 0 j) = BitVec.ofNat 32 (first (col l b j)).val := by
  pointwise [k0_pay9]
  exact fold_min_eq (col l b j) _ _ (max_eq l b j).symm (fun e h => by rw [max_eq]; exact (lt_first _ e h).ne) _ _
theorem mask_eq (e : Fin 16) : k0_pay10 l b (ix2 e j) = masked (col l b j) e := by
  pointwise [k0_pay10]
  rw [arg_eq, negInf_eq]
  unfold masked
  by_cases h : e = first (col l b j)
  · rw [if_pos h, h]; simp [Scalar.select, IntOp.cmpi]
  · rw [if_neg h]
    have h' : ¬ BitVec.ofNat 32 e.val = BitVec.ofNat 32 (first (col l b j)).val := fun h' => h ((word_eq_iff _ _).mp h').symm
    have h2 : (BitVec.ofNat 32 e.val == BitVec.ofNat 32 (first (col l b j)).val) = false := by rw [beq_eq_false_iff_ne]; exact h'
    unfold Scalar.select IntOp.cmpi
    dsimp only
    rw [h2]
    rfl
theorem max2_eq : k0_pay11 l b (ix2 0 j) = col l b j (second (col l b j)) := by
  pointwise [k0_pay11]
  rw [← masked_second (col l b j), ← fold_max_eq (masked (col l b j)) _ (masked_le _)]
  exact congrArg (fun f => Finset.fold max _ f _) (funext fun e => mask_eq l b j e)
theorem arg2_eq (hv : ∀ e, col l b j e ≠ ⊥) : k0_pay12 l b (ix2 0 j) = BitVec.ofNat 32 (second (col l b j)).val := by
  pointwise [k0_pay12]
  simp only [mask_eq, max2_eq]
  exact fold_min_eq (masked (col l b j)) _ _ (masked_second _) (fun e h => masked_lt _ hv e h) _ _

theorem pick0 : k0_pay13 l b (ix2 0 j) = BitVec.ofNat 32 (first (col l b j)).val := by
  rw [← arg_eq]
  pointwise [k0_pay13]
theorem pick1 (hv : ∀ e, col l b j e ≠ ⊥) : k0_pay13 l b (ix2 1 j) = BitVec.ofNat 32 (second (col l b j)).val := by
  rw [← arg2_eq l b j hv]
  pointwise [k0_pay13]
theorem gate0 : k0_pay14 l b (ix2 0 j)
    = Ideal.div 1 (1 + Ideal.exp (col l b j (second (col l b j)) - col l b j (first (col l b j)))) := by
  rw [← max_eq, ← max2_eq]
  pointwise [k0_pay14]
theorem gate1 : k0_pay14 l b (ix2 1 j)
    = Ideal.div (Ideal.exp (col l b j (second (col l b j)) - col l b j (first (col l b j))))
      (1 + Ideal.exp (col l b j (second (col l b j)) - col l b j (first (col l b j)))) := by
  rw [← max_eq, ← max2_eq]
  pointwise [k0_pay14]
end Router

/-- A block's products, split between router and gate. -/
theorem router_part (x : Vec Ideal S1x512x2048 .f32) (u v : Vec Ideal S16x2048 .f32) (e : Fin 16) (j : Fin 512) :
    k0_pay5 x (k0_pay3 u v) (ix2 e j) = ∑ d, x (ix3 0 j d) * u (ix2 e d) := by
  pointwise [k0_pay5, k0_pay4, k0_pay3]
theorem gate_part (x : Vec Ideal S1x512x2048 .f32) (u v : Vec Ideal S16x2048 .f32) (b : Vec Ideal S1x16 .f32) (e : Fin 16) (j : Fin 512) :
    k0_pay7 (k0_pay4 x (k0_pay3 u v)) b (ix2 e j) = (∑ d, x (ix3 0 j d) * v (ix2 e d)) + b (ix2 0 e) := by
  pointwise [k0_pay7, k0_pay4, k0_pay3]

/-- A row of sixteen put through the softmax. -/
def soft (w : Fin 16 → EReal) (e : Fin 16) : EReal :=
  Ideal.div (Ideal.exp (w e - Finset.fold max (Ideal.ofBits .f32 4286578688#32) w Finset.univ))
    (∑ k, Ideal.exp (w k - Finset.fold max (Ideal.ofBits .f32 4286578688#32) w Finset.univ))

theorem soft_eq (g : FVec Ideal S16x512 .f32) (e : Fin 16) (j : Fin 512) : k0_pay15 g (ix2 e j) = soft (fun k => g (ix2 k j)) e := by
  unfold soft; pointwise [k0_pay15]

theorem cnt_eq (l : FVec Ideal S16x512 .f32) (b : Vec Ideal S1x16 .f32) (s : Vec Ideal S16x1 .f32) (hv : ∀ j e, col l b j e ≠ ⊥) (e : Fin 16) :
    k0_pay18 (iota .tc S16x512 32 [0] iota_S16x512_d0_w32) (k0_pay9 l b) (k0_pay12 l b) s (ix2 e 0)
      = s (ix2 e 0) + ∑ j, ((if first (col l b j) = e then (1 : EReal) else 0) + (if second (col l b j) = e then (1 : EReal) else 0)) := by
  pointwise [k0_pay18]
  simp only [arg_eq, arg2_eq l b _ (hv _), hit_eq]
theorem imp_eq (g : FVec Ideal S16x512 .f32) (s : Vec Ideal S16x1 .f32) (e : Fin 16) :
    k0_pay19 g s (ix2 e 0) = s (ix2 e 0) + ∑ j, soft (fun k => g (ix2 k j)) e := by
  simp only [← soft_eq]
  pointwise [k0_pay19]
theorem cnt_start (e : Fin 16) : k0_pay16 (F := Ideal) (ix2 e 0) = 0 := by pointwise [k0_pay16]
theorem imp_start (e : Fin 16) : k0_pay17 (F := Ideal) (ix2 e 0) = 0 := by pointwise [k0_pay17]

/-- The balance loss of the counts. -/
def bal (n : Fin 16 → EReal) : EReal :=
  Ideal.ofBits .f32 1008981770#32 * (Ideal.ofBits .f32 1098907648#32
    * ∑ e, Ideal.div (n e) (Ideal.ofBits .f32 1182793728#32) * Ideal.div (n e) (Ideal.ofBits .f32 1182793728#32) - 1)
/-- The importance loss of the sums. -/
def imp (n : Fin 16 → EReal) : EReal :=
  Ideal.ofBits .f32 1008981770#32 * ∑ e,
    ((if 0 < ∑ k, n k then Ideal.div (n e) (∑ k, n k) else 0) - Ideal.ofBits .f32 1031798784#32)
      * ((if 0 < ∑ k, n k then Ideal.div (n e) (∑ k, n k) else 0) - Ideal.ofBits .f32 1031798784#32)

theorem bal_eq (n : Vec Ideal S16x1 .f32) : k0_pay1 n (ix2 0 0) = bal fun e => n (ix2 e 0) := by
  unfold bal; pointwise [k0_pay1]; simp only [Finset.univ_unique, Finset.sum_singleton]
theorem imp_loss_eq (n : Vec Ideal S16x1 .f32) : k0_pay2 n (ix2 0 0) = imp fun e => n (ix2 e 0) := by
  unfold imp; pointwise [k0_pay2]; simp only [Finset.univ_unique, Finset.sum_singleton]
  by_cases h : 0 < ∑ k, n (ix2 k 0)
  · simp only [if_pos h]; pointwise
  · simp only [if_neg h]; pointwise

end Cert.Router.Columns

end
-- ==== Proof.RefRows.lean ====
/-
  The reference's results read at an index, in the words the kernel's blocks are read in.
-/
module

public import proofs.«01_k».proof.Proof.RefStages
public import proofs.«01_k».proof.Proof.Columns

@[expose] public section

set_option maxRecDepth 16384

noncomputable section

namespace Cert.Router.Ref

open Cert.ReferenceIdeal Cert.ReferenceIdeal.Facts₀ Idealize.ShloMosaic
open Cert.Router.Columns (soft bal imp)

theorem logits_apply (x W b) (i : Fin 4) (s : Fin 4096) (e : Fin 16) :
    logits x W b (ix3 i s e) = (∑ d, x (ix3 i s d) * W (ix2 e d)) + b (ix1 e) := by
  pointwise [logits]

/-- A token's logits. -/
abbrev row (l : FVec Ideal S4x4096x16 .f32) (i : Fin 4) (s : Fin 4096) : Fin 16 → EReal := fun e => l (ix3 i s e)

section Top
variable (l : FVec Ideal S4x4096x16 .f32) (i : Fin 4) (s : Fin 4096)

theorem along_eq (k e : Fin 16) : (ix3 i s k : S4x4096x16.Idx).along 2 e = ix3 i s e := by
  funext a; match a with | ⟨0, _⟩ => rfl | ⟨1, _⟩ => rfl | ⟨2, _⟩ => rfl

theorem sorted_eq (x : IVec S4x4096x16 32) (k : Fin 16) :
    (Host.sort2 S4x4096x16 2 (fun l r : EReal × BitVec 32 => FloatOps.cmpfTotal (F := Ideal) (φ := .f32) CmpDirection.gt l.1 r.1) l x).1 (ix3 i s k)
      = row l i s (sortedFrom (above (row l i s)) k)
    ∧ (Host.sort2 S4x4096x16 2 (fun l r : EReal × BitVec 32 => FloatOps.cmpfTotal (F := Ideal) (φ := .f32) CmpDirection.gt l.1 r.1) l x).2 (ix3 i s k)
      = x (ix3 i s (sortedFrom (above (row l i s)) k)) := by
  have hb : (fun a b : Fin 16 => FloatOps.cmpfTotal (F := Ideal) (φ := .f32) CmpDirection.gt (l ((ix3 i s k : S4x4096x16.Idx).along 2 a))
      (l ((ix3 i s k : S4x4096x16.Idx).along 2 b)) == 1#1) = above (row l i s) := by
    funext a b; rw [along_eq, along_eq]; rfl
  have hk : (ix3 i s k : S4x4096x16.Idx).along 2 (sortedFrom (fun a b : Fin 16 => FloatOps.cmpfTotal (F := Ideal) (φ := .f32) CmpDirection.gt
      (l ((ix3 i s k : S4x4096x16.Idx).along 2 a)) (l ((ix3 i s k : S4x4096x16.Idx).along 2 b)) == 1#1) k) = ix3 i s (sortedFrom (above (row l i s)) k) := by
    rw [hb]; exact along_eq i s k _
  exact ⟨congrArg l hk, congrArg x hk⟩

theorem top_val (k : Fin 2) : (top l).1 (ix3 i s k) = row l i s (sortedFrom (above (row l i s)) ⟨k.val, by omega⟩) := by
  pointwise [top, Host.topK]
  exact (sorted_eq l i s _ _).1
theorem top_idx (k : Fin 2) : (top l).2 (ix3 i s k) = BitVec.ofNat 32 (sortedFrom (above (row l i s)) ⟨k.val, by omega⟩).val := by
  pointwise [top, Host.topK]
  exact (sorted_eq l i s _ _).2
end Top

theorem soft16_apply (v : FVec Ideal S4x4096x16 .f32) (i : Fin 4) (s : Fin 4096) (e : Fin 16) : soft16 v (ix3 i s e) = soft (row v i s) e := by
  unfold soft
  pointwise [soft16, expo16]
  simp only [negInf_eq, bot_le, sup_of_le_right]
/-- The softmax of the two picked logits, the greater of them real. -/
theorem soft2_apply (v : FVec Ideal S4x4096x2 .f32) (i : Fin 4) (s : Fin 4096) (h : v (ix3 i s 1) ≤ v (ix3 i s 0))
    (h1 : v (ix3 i s 0) ≠ ⊥) (h2 : v (ix3 i s 0) ≠ ⊤) :
    soft2 v (ix3 i s 0) = Ideal.div 1 (1 + Ideal.exp (v (ix3 i s 1) - v (ix3 i s 0)))
    ∧ soft2 v (ix3 i s 1) = Ideal.div (Ideal.exp (v (ix3 i s 1) - v (ix3 i s 0))) (1 + Ideal.exp (v (ix3 i s 1) - v (ix3 i s 0))) := by
  have hm : Finset.fold max (Ideal.ofBits .f32 4286578688#32) (fun x : Fin 2 => v (ix3 i s x)) Finset.univ = v (ix3 i s 0) :=
    fold_max_eq (fun x : Fin 2 => v (ix3 i s x)) 0 (fun e => by fin_cases e; exacts [le_rfl, h])
  have h0 : Ideal.exp (v (ix3 i s 0) - v (ix3 i s 0)) = 1 := by
    rw [EReal.sub_self h2 h1]
    show ((Real.exp 0 : ℝ) : EReal) = 1
    rw [Real.exp_zero]; rfl
  constructor <;>
  · pointwise [soft2, expo2]
    rw [hm, negInf_eq, max_eq_right bot_le, Fin.sum_univ_two, h0]

/-! ## The counts -/

theorem wrap_apply (i : IVec S16384 32) (f : Fin 16384 → Fin 16) (h : ∀ n, i (ix1 n) = BitVec.ofNat 32 (f n).val) (n : Fin 16384) :
    wrap i (ix2 n 0) = BitVec.ofNat 32 (f n).val := by
  pointwise [wrap, clip]
  rw [h]
  show Scalar.select (IntOp.cmpi .slt (IntOp.maxsi 0#32 _) 0#32) (IntOp.addi (IntOp.maxsi 0#32 _) 16#32) (IntOp.maxsi 0#32 _) = _
  generalize f n = e
  revert e; decide

theorem lands (idx : IVec S16384x1 32) (n : Fin 16384) (e : Fin 16) :
    scatter_S16_S16384x1_S16384_n_0_0_1.resultIdx? (ix1 n) idx = some (ix1 e) ↔ (idx (ix2 n 0)).toInt = (e.val : ℤ) := by
  have hw : scatter_S16_S16384x1_S16384_n_0_0_1.window (ix1 n) 0 = 0 := rfl
  have hs : scatter_S16_S16384x1_S16384_n_0_0_1.start (ix1 n) idx 0 = (idx (ix2 n 0)).toInt := by
    unfold ScatterDims.start
    rw [dif_pos (by decide)]
    refine congrArg (fun y => (idx y).toInt) (funext fun a => ?_)
    match a with
    | ⟨0, _⟩ => rfl
    | ⟨1, _⟩ => exact Subsingleton.elim (α := Fin 1) _ _
  rw [Routing.resultIdx?_eq_some]
  constructor
  · intro h
    have h0 := h 0
    rw [hw, hs] at h0
    simpa using h0
  · intro h a
    match a with
    | ⟨0, _⟩ =>
      show scatter_S16_S16384x1_S16384_n_0_0_1.start (ix1 n) idx 0 + (scatter_S16_S16384x1_S16384_n_0_0_1.window (ix1 n) 0 : ℤ) = _
      rw [hw, hs, h]; exact add_zero _

/-- The scatter of ones: entry `e` is how many tokens name it. -/
theorem hist_apply (i : IVec S16384 32) (f : Fin 16384 → Fin 16) (h : ∀ n, i (ix1 n) = BitVec.ofNat 32 (f n).val) (e : Fin 16) :
    FloatOps.sitofp (F := Ideal) .f32 (hist i (ix1 e)) = ∑ n, if f n = e then (1 : EReal) else 0 := by
  unfold hist
  rw [Routing.scatter_at]
  have hl : ∀ n : Fin 16384, scatter_S16_S16384x1_S16384_n_0_0_1.resultIdx? (ix1 n) (wrap i) = some (ix1 e) ↔ f n = e := fun n => by
    rw [lands, wrap_apply i f h, toInt_small _ (by omega), Fin.ext_iff]; omega
  have hc : ∀ y : S16384.Idx, scatter_S16_S16384x1_S16384_n_0_0_1.resultIdx? y (wrap i) = some (ix1 e) ↔ f (y 0) = e := fun y => by
    rw [← hl (y 0)]; exact iff_of_eq (congrArg (fun z => scatter_S16_S16384x1_S16384_n_0_0_1.resultIdx? z (wrap i) = some (ix1 e)) (eq_ix1 y))
  have hf := foldl_hits (fun n => f (S16384.rowMajor.symm n 0) = e) (List.finRange S16384.numel) 0
  rw [zero_add, ← Fin.sum_univ_def, Equiv.sum_comp S16384.rowMajor.symm (fun y : S16384.Idx => if f (y 0) = e then 1 else 0), sum_idx1] at hf
  rw [← sitofp_hits (fun n : Fin 16384 => f n = e) (by simp)]
  refine congrArg _ (Eq.trans ?_ hf)
  refine congrArg (fun F => List.foldl F (0#32) (List.finRange S16384.numel)) (funext fun a => funext fun n => ?_)
  exact if_congr (hc _) rfl rfl

theorem gathered_apply (g : FVec Ideal S4x4096x16 .f32) (e : Fin 16) : gathered g (ix1 e) = ∑ i : Fin 4, ∑ s : Fin 4096, g (ix3 i s e) := by
  pointwise [gathered]
  have hd : ∀ (a : Fin 4) (b : Fin 4096) (k : Fin 16), reducesTo_S4x4096x16_S16_d0_1.drop (ix3 a b k) = ix1 k := fun a b k => by
    funext j; match j with | ⟨0, _⟩ => rfl
  unfold Ideal.hostReduceAdd
  rw [zero_add, Finset.sum_filter, sum_idx3]
  refine Finset.sum_congr rfl fun a _ => Finset.sum_congr rfl fun b _ => ?_
  simp only [hd, ix1_inj, Finset.sum_ite_eq', Finset.mem_univ, if_true]
theorem balance_apply (n : FVec Ideal S16 .f32) : balance n ix0 = bal fun e => n (ix1 e) := by
  unfold bal; pointwise [balance]
theorem importance_apply (n : FVec Ideal S16 .f32) : importance n ix0 = imp fun e => n (ix1 e) := by
  unfold imp; pointwise [importance, uneven, total]
  rw [one_sixteenth]

end Cert.Router.Ref

end
-- ==== Proof.Arrays.lean ====
/-
  What the kernel's arrays hold after its run, token by token, in the reference's words.
-/
module

public import proofs.«01_k».proof.Proof.Run
public import proofs.«01_k».proof.Proof.RefRows
public import Idealize.ShloMosaic.Lib.Pipeline.ValueKit
public import Idealize.ShloMosaic.Lib.Pointwise.IndexBridge

@[expose] public section

set_option maxRecDepth 16384

noncomputable section

namespace Cert.Router.KernelIdeal

open Cert.KernelIdeal Cert.KernelIdeal.Gen
open Idealize.ShloMosaic
open Idealize.ShloMosaic.TcCoe
open Idealize.SL.Sem
open Idealize.ShloMosaic.Pipeline (Dat Cfg Window)
open Cert.Router.Columns (col soft bal imp)
open Cert.Router.Ref (row)

/-- Token `n`'s batch and place in it. -/
def bt (n : Fin 16384) : Fin 4 := ⟨n.val / 4096, by omega⟩
def pl (n : Fin 16384) : Fin 4096 := ⟨n.val % 4096, by omega⟩
/-- The token at a batch and a place. -/
def at_ (i : Fin 4) (s : Fin 4096) : Fin 16384 := ⟨i.val * 4096 + s.val, by omega⟩
theorem bt_at (i : Fin 4) (s : Fin 4096) : bt (at_ i s) = i := Fin.ext (by show (i.val * 4096 + s.val) / 4096 = i.val; omega)
theorem pl_at (i : Fin 4) (s : Fin 4096) : pl (at_ i s) = s := Fin.ext (by show (i.val * 4096 + s.val) % 4096 = s.val; omega)
/-- Point `t`'s token `j`. -/
def tok (t : Fin cfg0.N) (j : Fin 512) : Fin 16384 := ⟨t.val * 512 + j.val, by have h : t.val < 32 := t.isLt; omega⟩

theorem flat_apply (x : FVec Ideal S4x4096x2048 .f32) (n : Fin 16384) (d : Fin 2048) :
    shapeCast S16384x2048 x shapeCasts_S4x4096x2048_S16384x2048 (ix2 n d) = x (ix3 (bt n) (pl n) d) := by
  pointwise
  rfl

/-- A sum over the tokens, point by point or batch by batch. -/
theorem sum_points (f : Fin 16384 → EReal) : ∑ t ∈ Finset.range 32, ∑ j, f (tok (pt t) j) = ∑ n, f n := by
  rw [Finset.sum_range, ← Fintype.sum_prod_type' (fun (t : Fin 32) j => f (tok (pt t) j))]
  refine Fintype.sum_equiv (finProdFinEquiv (m := 32) (n := 512)) _ _ fun p => congrArg f (Fin.ext ?_)
  show p.1.val % 32 * 512 + p.2.val = p.2.val + 512 * p.1.val
  omega
theorem sum_batches (f : Fin 16384 → EReal) : ∑ i, ∑ s, f (at_ i s) = ∑ n, f n := by
  rw [← Fintype.sum_prod_type' (fun i s => f (at_ i s))]
  refine Fintype.sum_equiv (finProdFinEquiv (m := 4) (n := 4096)) _ _ fun p => congrArg f (Fin.ext ?_)
  show p.1.val * 4096 + p.2.val = p.2.val + 4096 * p.1.val
  omega

theorem at_w0 : ∀ (t : Fin cfg0.N) (a), win0_0.index t a = 0 := by decide +kernel
theorem at_w1 : ∀ (t : Fin cfg0.N) (a), win0_1.index t a = 0 := by decide +kernel
theorem at_w2 : ∀ (t : Fin cfg0.N) (a), win0_2.index t a = 0 := by decide +kernel
theorem at_w3 : ∀ (t : Fin cfg0.N) (a), win0_3.index t a = 0 := by decide +kernel
theorem at_w4 : ∀ (t : Fin cfg0.N), win0_4.index t 0 = 0 ∧ win0_4.index t 1 = t.val := by decide +kernel
theorem at_w5 : ∀ (t : Fin cfg0.N), win0_5.index t 0 = 0 ∧ win0_5.index t 1 = t.val := by decide +kernel
theorem at_w6 : ∀ (t : Fin cfg0.N), win0_6.index t 0 = 0 ∧ win0_6.index t 1 = t.val := by decide +kernel
theorem at_w7 : ∀ (t : Fin cfg0.N), win0_7.index t 0 = 0 ∧ win0_7.index t 1 = t.val := by decide +kernel

theorem emb_w4 (t : Fin cfg0.N) (y : S16x512.Idx) : (win0_4.blk t).view.emb y = ix2 (n0 := 16) (y 0) (tok t (y 1)) := by
  have e : ∀ a, ((win0_4.blk t).view.emb y a : ℕ) = win0_4.index t a * win0_4.size a + (y a).val := fun a => by blk_simp
  funext a; apply Fin.ext; refine (e a).trans ?_
  match a with
  | ⟨0, _⟩ => show win0_4.index t 0 * 16 + (y 0).val = (y 0).val; rw [(at_w4 t).1]; omega
  | ⟨1, _⟩ => show win0_4.index t 1 * 512 + (y 1).val = t.val * 512 + (y 1).val; rw [(at_w4 t).2]
theorem emb_w5 (t : Fin cfg0.N) (y : S2x512.Idx) : (win0_5.blk t).view.emb y = ix2 (n0 := 2) (y 0) (tok t (y 1)) := by
  have e : ∀ a, ((win0_5.blk t).view.emb y a : ℕ) = win0_5.index t a * win0_5.size a + (y a).val := fun a => by blk_simp
  funext a; apply Fin.ext; refine (e a).trans ?_
  match a with
  | ⟨0, _⟩ => show win0_5.index t 0 * 2 + (y 0).val = (y 0).val; rw [(at_w5 t).1]; omega
  | ⟨1, _⟩ => show win0_5.index t 1 * 512 + (y 1).val = t.val * 512 + (y 1).val; rw [(at_w5 t).2]
theorem emb_w6 (t : Fin cfg0.N) (y : S2x512.Idx) : (win0_6.blk t).view.emb y = ix2 (n0 := 2) (y 0) (tok t (y 1)) := by
  have e : ∀ a, ((win0_6.blk t).view.emb y a : ℕ) = win0_6.index t a * win0_6.size a + (y a).val := fun a => by blk_simp
  funext a; apply Fin.ext; refine (e a).trans ?_
  match a with
  | ⟨0, _⟩ => show win0_6.index t 0 * 2 + (y 0).val = (y 0).val; rw [(at_w6 t).1]; omega
  | ⟨1, _⟩ => show win0_6.index t 1 * 512 + (y 1).val = t.val * 512 + (y 1).val; rw [(at_w6 t).2]
theorem emb_w7 (t : Fin cfg0.N) (y : S16x512.Idx) : (win0_7.blk t).view.emb y = ix2 (n0 := 16) (y 0) (tok t (y 1)) := by
  have e : ∀ a, ((win0_7.blk t).view.emb y a : ℕ) = win0_7.index t a * win0_7.size a + (y a).val := fun a => by blk_simp
  funext a; apply Fin.ext; refine (e a).trans ?_
  match a with
  | ⟨0, _⟩ => show win0_7.index t 0 * 16 + (y 0).val = (y 0).val; rw [(at_w7 t).1]; omega
  | ⟨1, _⟩ => show win0_7.index t 1 * 512 + (y 1).val = t.val * 512 + (y 1).val; rw [(at_w7 t).2]

section Arrays
variable (m : (ℓ : Loc nD τ sig) → Buf (Elt Ideal) ℓ) (c : Dev nD)

/-- The router's and the gate's logits of all tokens. -/
def LR : FVec Ideal S4x4096x16 .f32 := Ref.logits (m ((c : Thread nD τ).loc main_arg0)) (m ((c : Thread nD τ).loc main_arg1)) (m ((c : Thread nD τ).loc main_arg2))
def LG : FVec Ideal S4x4096x16 .f32 := Ref.logits (m ((c : Thread nD τ).loc main_arg0)) (m ((c : Thread nD τ).loc main_arg3)) (m ((c : Thread nD τ).loc main_arg4))
/-- A token's rows of them. -/
abbrev rR (n : Fin 16384) : Fin 16 → EReal := row (LR m c) (bt n) (pl n)
abbrev rG (n : Fin 16384) : Fin 16 → EReal := row (LG m c) (bt n) (pl n)

/-! ## The blocks a point reads -/

theorem V_v0 (n : Fin 16384) (d : Fin 2048) : V m c main_v0 (ix2 n d) = m ((c : Thread nD τ).loc main_arg0) (ix3 (bt n) (pl n) d) := by
  have h : V m c main_v0 = shapeCast S16384x2048 (m ((c : Thread nD τ).loc main_arg0)) shapeCasts_S4x4096x2048_S16384x2048 := by
    simp only [V, V0, hostOps0, List.flatten_cons, List.flatten_nil, List.append_nil, List.cons_append, List.nil_append]
    after_results
    rfl
  rw [h]
  exact flat_apply _ _ _
theorem V_v1 (e : Fin 16) : V m c main_v1 (ix2 0 e) = m ((c : Thread nD τ).loc main_arg2) (ix1 e) := by
  have h : V m c main_v1 = shapeCast S1x16 (m ((c : Thread nD τ).loc main_arg2)) shapeCasts_S16_S1x16 := by
    simp only [V, V0, hostOps0, List.flatten_cons, List.flatten_nil, List.append_nil, List.cons_append, List.nil_append]
    after_results
    rfl
  rw [h]
  pointwise
theorem V_v2 (e : Fin 16) : V m c main_v2 (ix2 0 e) = m ((c : Thread nD τ).loc main_arg4) (ix1 e) := by
  have h : V m c main_v2 = shapeCast S1x16 (m ((c : Thread nD τ).loc main_arg4)) shapeCasts_S16_S1x16 := by
    simp only [V, V0, hostOps0, List.flatten_cons, List.flatten_nil, List.append_nil, List.cons_append, List.nil_append]
    after_results
    rfl
  rw [h]
  pointwise
theorem w0_eq (t : Fin cfg0.N) : iblk m c 0 t = m ((c : Thread nD τ).loc main_arg1) := by
  rw [← V_main_arg1 m c]
  funext y
  blk_simp [iblk]
  refine congrArg _ (funext fun a => Fin.ext ?_)
  blk_simp
  rw [at_w0, zero_mul, zero_add]
theorem w1_eq (t : Fin cfg0.N) : iblk m c 1 t = m ((c : Thread nD τ).loc main_arg3) := by
  rw [← V_main_arg3 m c]
  funext y
  blk_simp [iblk]
  refine congrArg _ (funext fun a => Fin.ext ?_)
  blk_simp
  rw [at_w1, zero_mul, zero_add]
theorem w2_eq (t : Fin cfg0.N) (e : Fin 16) : brAt m c t (ix2 0 e) = m ((c : Thread nD τ).loc main_arg2) (ix1 e) := by
  rw [← V_v1 m]
  unfold brAt
  blk_simp [iblk]
  refine congrArg _ (funext fun a => Fin.ext ?_)
  blk_simp
  rw [at_w2, zero_mul, zero_add]
theorem w3_eq (t : Fin cfg0.N) (e : Fin 16) : bgAt m c t (ix2 0 e) = m ((c : Thread nD τ).loc main_arg4) (ix1 e) := by
  rw [← V_v2 m]
  unfold bgAt
  blk_simp [iblk]
  refine congrArg _ (funext fun a => Fin.ext ?_)
  blk_simp
  rw [at_w3, zero_mul, zero_add]
theorem x_at (t : Fin cfg0.N) (j : Fin 512) (d : Fin 2048) :
    xAt c (XV m c) (Ring.bk 32 t.val) (ix3 0 j d) = m ((c : Thread nD τ).loc main_arg0) (ix3 (bt (tok t j)) (pl (tok t j)) d) := by
  rw [← V_v0 m c]
  refine congrArg (V m c main_v0) (funext fun a => Fin.ext ?_)
  have h : t.val < 32 := t.isLt
  match a with
  | ⟨0, _⟩ => show t.val % 32 * 512 + j.val = t.val * 512 + j.val; omega
  | ⟨1, _⟩ => rfl

theorem col_eq (t : Fin cfg0.N) (j : Fin 512) : col (lr m c t.val) (brAt m c t) j = rR m c (tok t j) := by
  funext e
  rw [Columns.col_apply, w2_eq]
  show k0_pay5 (xAt c (XV m c) (Ring.bk 32 t.val)) (k0_pay3 (iblk m c 0 (pt 0)) (iblk m c 1 (pt 0))) (ix2 e j) + _ = LR m c (ix3 _ _ e)
  rw [w0_eq, w1_eq, Columns.router_part, LR, Ref.logits_apply]
  exact congrArg (· + _) (Finset.sum_congr rfl fun d _ => congrArg (· * _) (x_at m c t j d))
theorem gate_eq (t : Fin cfg0.N) (j : Fin 512) : (fun e => k0_pay7 (lg m c t.val) (bgAt m c t) (ix2 e j)) = rG m c (tok t j) := by
  funext e
  show k0_pay7 (k0_pay4 (xAt c (XV m c) (Ring.bk 32 t.val)) (k0_pay3 (iblk m c 0 (pt 0)) (iblk m c 1 (pt 0)))) _ (ix2 e j) = LG m c (ix3 _ _ e)
  rw [w0_eq, w1_eq, Columns.gate_part, LG, Ref.logits_apply, w3_eq]
  exact congrArg (· + _) (Finset.sum_congr rfl fun d _ => congrArg (· * _) (x_at m c t j d))

/-! ## The arrays -/

/-- No router logit is −∞. -/
def Below : Prop := ∀ n e, rR m c n e ≠ ⊥

/-- The place of a token's first or second logit, and the share it gets. -/
def place (v : Fin 16 → EReal) (k : Fin 2) : Fin 16 := if k = 0 then first v else second v
def share (v : Fin 16 → EReal) (k : Fin 2) : EReal :=
  Ideal.div (if k = 0 then 1 else Ideal.exp (v (second v) - v (first v))) (1 + Ideal.exp (v (second v) - v (first v)))

theorem val4 (t : Fin cfg0.N) (k : Fin 16) (j : Fin 512) : k0_pay6 (lr m c t.val) (brAt m c t) (ix2 k j) = rR m c (tok t j) k :=
  congrFun (col_eq m c t j) k
theorem val5 (hb : Below m c) (t : Fin cfg0.N) (k : Fin 2) (j : Fin 512) :
    k0_pay13 (lr m c t.val) (brAt m c t) (ix2 k j) = BitVec.ofNat 32 (place (rR m c (tok t j)) k).val := by
  have hv : ∀ e, col (lr m c t.val) (brAt m c t) j e ≠ ⊥ := fun e => by rw [col_eq]; exact hb _ e
  rw [← col_eq]
  rcases (show k = 0 ∨ k = 1 by omega) with rfl | rfl
  · rw [place, if_pos rfl]
    exact Columns.pick0 _ _ _
  · rw [place, if_neg (by decide)]
    exact Columns.pick1 _ _ _ hv
theorem val6 (t : Fin cfg0.N) (k : Fin 2) (j : Fin 512) :
    k0_pay14 (lr m c t.val) (brAt m c t) (ix2 k j) = share (rR m c (tok t j)) k := by
  rw [← col_eq]
  rcases (show k = 0 ∨ k = 1 by omega) with rfl | rfl
  · rw [share, if_pos rfl]
    exact Columns.gate0 _ _ _
  · rw [share, if_neg (by decide)]
    exact Columns.gate1 _ _ _
theorem val7 (t : Fin cfg0.N) (k : Fin 16) (j : Fin 512) : k0_pay15 (k0_pay7 (lg m c t.val) (bgAt m c t)) (ix2 k j) = soft (rG m c (tok t j)) k := by
  rw [← gate_eq]
  exact Columns.soft_eq _ _ _

theorem arr4 : (dats m 0 c).arrAt 4 cfg0.N = fun i : S16x16384.Idx => rR m c (i 1) (i 0) := by
  refine (dats m 0 c).arrAt_eq_of_covers 4 _ (by decide +kernel) fun t hf (y : S16x512.Idx) => ?_
  blk_simp
  rw [after_w4]
  exact (congrArg _ (eq_ix2 y)).trans ((val4 m c t (y 0) (y 1)).trans
    (congrArg (fun i : S16x16384.Idx => rR m c (i 1) (i 0)) (emb_w4 t y)).symm)
theorem arr5 (hb : Below m c) : (dats m 0 c).arrAt 5 cfg0.N = fun i : S2x16384.Idx => BitVec.ofNat 32 (place (rR m c (i 1)) (i 0)).val := by
  refine (dats m 0 c).arrAt_eq_of_covers 5 _ (by decide +kernel) fun t hf (y : S2x512.Idx) => ?_
  blk_simp
  rw [after_w5]
  exact (congrArg _ (eq_ix2 y)).trans ((val5 m c hb t (y 0) (y 1)).trans
    (congrArg (fun i : S2x16384.Idx => BitVec.ofNat 32 (place (rR m c (i 1)) (i 0)).val) (emb_w5 t y)).symm)
theorem arr6 : (dats m 0 c).arrAt 6 cfg0.N = fun i : S2x16384.Idx => share (rR m c (i 1)) (i 0) := by
  refine (dats m 0 c).arrAt_eq_of_covers 6 _ (by decide +kernel) fun t hf (y : S2x512.Idx) => ?_
  blk_simp
  rw [after_w6]
  exact (congrArg _ (eq_ix2 y)).trans ((val6 m c t (y 0) (y 1)).trans
    (congrArg (fun i : S2x16384.Idx => share (rR m c (i 1)) (i 0)) (emb_w6 t y)).symm)
theorem arr7 : (dats m 0 c).arrAt 7 cfg0.N = fun i : S16x16384.Idx => soft (rG m c (i 1)) (i 0) := by
  refine (dats m 0 c).arrAt_eq_of_covers 7 _ (by decide +kernel) fun t hf (y : S16x512.Idx) => ?_
  blk_simp
  rw [after_w7]
  exact (congrArg _ (eq_ix2 y)).trans ((val7 m c t (y 0) (y 1)).trans
    (congrArg (fun i : S16x16384.Idx => soft (rG m c (i 1)) (i 0)) (emb_w7 t y)).symm)

/-! ## The two sums -/

theorem cnt_all (hb : Below m c) (e : Fin 16) (n : ℕ) (hn : n < 32) : cntAt m c n (ix2 e 0) = ∑ t ∈ Finset.range (n + 1), ∑ j,
    ((if first (rR m c (tok (pt t) j)) = e then (1 : EReal) else 0) + (if second (rR m c (tok (pt t) j)) = e then (1 : EReal) else 0)) := by
  have hp : ∀ k, k < 32 → (pt k).val = k := fun k hk => Nat.mod_eq_of_lt hk
  have hs : ∀ (k : ℕ) (hk : k < 32) (s), cntStep (lr m c k) (brAt m c (pt k)) s (ix2 e 0) = s (ix2 e 0) + ∑ j,
      ((if first (rR m c (tok (pt k) j)) = e then (1 : EReal) else 0) + (if second (rR m c (tok (pt k) j)) = e then (1 : EReal) else 0)) := fun k hk s => by
    have hc := col_eq m c (pt k)
    rw [hp k hk] at hc
    refine (Columns.cnt_eq _ _ _ (fun j e' => by rw [hc]; exact hb _ e') e).trans ?_
    simp only [hc]
  induction n with
  | zero =>
    rw [Finset.sum_range_one]
    exact (hs 0 hn _).trans (by rw [Columns.cnt_start, zero_add])
  | succ k ih =>
    rw [Finset.sum_range_succ, ← ih (by omega)]
    exact hs (k + 1) hn _
theorem imp_all (e : Fin 16) (n : ℕ) (hn : n < 32) : impAt m c n (ix2 e 0) = ∑ t ∈ Finset.range (n + 1), ∑ j, soft (rG m c (tok (pt t) j)) e := by
  have hp : ∀ k, k < 32 → (pt k).val = k := fun k hk => Nat.mod_eq_of_lt hk
  have hs : ∀ (k : ℕ) (hk : k < 32) (s), impStep (lg m c k) (bgAt m c (pt k)) s (ix2 e 0) = s (ix2 e 0) + ∑ j, soft (rG m c (tok (pt k) j)) e := fun k hk s => by
    have hc := gate_eq m c (pt k)
    rw [hp k hk] at hc
    refine (Columns.imp_eq _ _ e).trans ?_
    simp only [hc]
  induction n with
  | zero =>
    rw [Finset.sum_range_one]
    exact (hs 0 hn _).trans (by rw [Columns.imp_start, zero_add])
  | succ k ih =>
    rw [Finset.sum_range_succ, ← ih (by omega)]
    exact hs (k + 1) hn _

theorem arr10 (hb : Below m c) : (dats m 0 c).arrAt 10 cfg0.N = fun _ : S1x1.Idx => bal fun e =>
    ∑ n, ((if first (rR m c n) = e then (1 : EReal) else 0) + (if second (rR m c n) = e then (1 : EReal) else 0)) := by
  refine (dats m 0 c).arrAt_eq_of_after_last 10 (pt 31) (by decide +kernel) _ fun y => ?_
  rw [after_w10]
  blk_simp
  refine Eq.trans (congrArg (k0_pay1 (cntAt m c 31)) (?_ : _ = ix2 0 0)) ((Columns.bal_eq _).trans (congrArg bal (funext fun e => ?_)))
  · exact funext fun a => match a with | ⟨0, _⟩ => Subsingleton.elim (α := Fin 1) _ _ | ⟨1, _⟩ => Subsingleton.elim (α := Fin 1) _ _
  · rw [cnt_all m c hb e 31 (by decide)]
    exact sum_points fun n => (if first (rR m c n) = e then (1 : EReal) else 0) + (if second (rR m c n) = e then (1 : EReal) else 0)
theorem arr11 : (dats m 0 c).arrAt 11 cfg0.N = fun _ : S1x1.Idx => imp fun e => ∑ n, soft (rG m c n) e := by
  refine (dats m 0 c).arrAt_eq_of_after_last 11 (pt 31) (by decide +kernel) _ fun y => ?_
  rw [after_w11]
  blk_simp
  refine Eq.trans (congrArg (k0_pay2 (impAt m c 31)) (?_ : _ = ix2 0 0)) ((Columns.imp_loss_eq _).trans (congrArg imp (funext fun e => ?_)))
  · exact funext fun a => match a with | ⟨0, _⟩ => Subsingleton.elim (α := Fin 1) _ _ | ⟨1, _⟩ => Subsingleton.elim (α := Fin 1) _ _
  · rw [imp_all m c e 31 (by decide)]
    exact sum_points fun n => soft (rG m c n) e
end Arrays

end Cert.Router.KernelIdeal

end
-- ==== Proof.Value.lean ====
/-
  What the kernel's program returns, and that it is what the reference returns.
-/
module

public import proofs.«01_k».proof.Proof.Arrays
public import proofs.«01_k».proof.Pre_router_finite

@[expose] public section

set_option maxRecDepth 16384

noncomputable section

namespace Cert.Router.KernelIdeal

open Cert.KernelIdeal Cert.KernelIdeal.Gen
open Idealize.ShloMosaic
open Idealize.ShloMosaic.TcCoe
open Idealize.SL.Sem
open Idealize.ShloMosaic.Pipeline (Dat Cfg Window)
open Cert.Router.Columns (col soft bal imp)
open Cert.Router.Ref (row)

theorem refs_inj : Function.Injective (Pipeline.arrRef spec0) := by decide

/-! ## The programs' layouts, back in batches -/

theorem back16 {α : Type} (x : S16x16384.Idx → α) (i : Fin 4) (s : Fin 4096) (e : Fin 16) :
    shapeCast S4x4096x16 (transpose S16384x16 [1, 0] x transposes_S16x16384_S16384x16_1_0) shapeCasts_S16384x16_S4x4096x16 (ix3 i s e)
      = x (ix2 e (at_ i s)) := by
  pointwise
  rfl
theorem back2 {α : Type} (x : S2x16384.Idx → α) (i : Fin 4) (s : Fin 4096) (e : Fin 2) :
    shapeCast S4x4096x2 (transpose S16384x2 [1, 0] x transposes_S2x16384_S16384x2_1_0) shapeCasts_S16384x2_S4x4096x2 (ix3 i s e)
      = x (ix2 e (at_ i s)) := by
  pointwise
  rfl

section End
variable (m : (ℓ : Loc nD τ sig) → Buf (Elt Ideal) ℓ) (c : Dev nD)

/-- What the program leaves at a reference. -/
abbrev fin (b : Ref sig .tc) := Pipeline.afterTail₀ cfgs (dats m) 0 (V0 m) [hostOps1] c b

theorem end_v5 : fin m c main_v5 = shapeCast S4x4096x16 (transpose S16384x16 [1, 0] ((dats m 0 c).arrAt 4 cfg0.N) transposes_S16x16384_S16384x16_1_0) shapeCasts_S16384x16_S4x4096x16 := by
  rw [← Pipeline.withArrays_arr spec0 refs_inj c (V0 m c) (fun w => (dats m 0 c).arrAt w cfg0.N) 4]
  unfold fin Pipeline.afterTail₀
  simp only [hostOps1, List.flatten_cons, List.flatten_nil, List.append_nil, List.cons_append, List.nil_append]
  after_results
  rfl
theorem end_v7 : fin m c main_v7 = shapeCast S4x4096x2 (transpose S16384x2 [1, 0] ((dats m 0 c).arrAt 5 cfg0.N) transposes_S2x16384_S16384x2_1_0) shapeCasts_S16384x2_S4x4096x2 := by
  rw [← Pipeline.withArrays_arr spec0 refs_inj c (V0 m c) (fun w => (dats m 0 c).arrAt w cfg0.N) 5]
  unfold fin Pipeline.afterTail₀
  simp only [hostOps1, List.flatten_cons, List.flatten_nil, List.append_nil, List.cons_append, List.nil_append]
  after_results
  rfl
theorem end_v9 : fin m c main_v9 = shapeCast S4x4096x2 (transpose S16384x2 [1, 0] ((dats m 0 c).arrAt 6 cfg0.N) transposes_S2x16384_S16384x2_1_0) shapeCasts_S16384x2_S4x4096x2 := by
  rw [← Pipeline.withArrays_arr spec0 refs_inj c (V0 m c) (fun w => (dats m 0 c).arrAt w cfg0.N) 6]
  unfold fin Pipeline.afterTail₀
  simp only [hostOps1, List.flatten_cons, List.flatten_nil, List.append_nil, List.cons_append, List.nil_append]
  after_results
  rfl
theorem end_v11 : fin m c main_v11 = shapeCast S4x4096x16 (transpose S16384x16 [1, 0] ((dats m 0 c).arrAt 7 cfg0.N) transposes_S16x16384_S16384x16_1_0) shapeCasts_S16384x16_S4x4096x16 := by
  rw [← Pipeline.withArrays_arr spec0 refs_inj c (V0 m c) (fun w => (dats m 0 c).arrAt w cfg0.N) 7]
  unfold fin Pipeline.afterTail₀
  simp only [hostOps1, List.flatten_cons, List.flatten_nil, List.append_nil, List.cons_append, List.nil_append]
  after_results
  rfl
theorem end_v12 : fin m c main_v12 = shapeCast S_ ((dats m 0 c).arrAt 10 cfg0.N) shapeCasts_S1x1_S_ := by
  rw [← Pipeline.withArrays_arr spec0 refs_inj c (V0 m c) (fun w => (dats m 0 c).arrAt w cfg0.N) 10]
  unfold fin Pipeline.afterTail₀
  simp only [hostOps1, List.flatten_cons, List.flatten_nil, List.append_nil, List.cons_append, List.nil_append]
  after_results
  rfl
theorem end_v13 : fin m c main_v13 = shapeCast S_ ((dats m 0 c).arrAt 11 cfg0.N) shapeCasts_S1x1_S_ := by
  rw [← Pipeline.withArrays_arr spec0 refs_inj c (V0 m c) (fun w => (dats m 0 c).arrAt w cfg0.N) 11]
  unfold fin Pipeline.afterTail₀
  simp only [hostOps1, List.flatten_cons, List.flatten_nil, List.append_nil, List.cons_append, List.nil_append]
  after_results
  rfl

/-! ## The six results -/

theorem place_eq (v : Fin 16 → EReal) (k : Fin 2) : place v k = sortedFrom (above v) ⟨k.val, by omega⟩ := by
  rcases (show k = 0 ∨ k = 1 by omega) with rfl | rfl
  · rw [place, if_pos rfl]; rfl
  · rw [place, if_neg (by decide)]; rfl
theorem rR_at (i : Fin 4) (s : Fin 4096) : rR m c (at_ i s) = row (LR m c) i s := by
  show row _ (bt _) (pl _) = _
  rw [bt_at, pl_at]
theorem rG_at (i : Fin 4) (s : Fin 4096) : rG m c (at_ i s) = row (LG m c) i s := by
  show row _ (bt _) (pl _) = _
  rw [bt_at, pl_at]

theorem val_v5 : fin m c main_v5 = LR m c := by
  rw [end_v5, arr4]
  funext (i : S4x4096x16.Idx)
  obtain ⟨b, s, e, rfl⟩ : ∃ b s e, i = ix3 b s e := ⟨i 0, i 1, i 2, eq_ix3 i⟩
  exact (back16 _ b s e).trans (congrFun (rR_at m c b s) e)
theorem val_v7 (hb : Below m c) : fin m c main_v7 = (Ref.top (LR m c)).2 := by
  rw [end_v7, arr5 m c hb]
  funext (i : S4x4096x2.Idx)
  obtain ⟨b, s, k, rfl⟩ : ∃ b s k, i = ix3 b s k := ⟨i 0, i 1, i 2, eq_ix3 i⟩
  refine (back2 _ b s k).trans ?_
  rw [Ref.top_idx, ← place_eq, ← rR_at]
  rfl
theorem val_v9 (hb : Below m c) (ht : ∀ n e, rR m c n e ≠ ⊤) : fin m c main_v9 = Ref.soft2 (Ref.top (LR m c)).1 := by
  rw [end_v9, arr6]
  funext (i : S4x4096x2.Idx)
  obtain ⟨b, s, k, rfl⟩ : ∃ b s k, i = ix3 b s k := ⟨i 0, i 1, i 2, eq_ix3 i⟩
  refine (back2 _ b s k).trans ?_
  show share (rR m c (at_ b s)) k = _
  have h0 : (Ref.top (LR m c)).1 (ix3 b s 0) = rR m c (at_ b s) (first (rR m c (at_ b s))) := by rw [Ref.top_val, rR_at]; rfl
  have h1 : (Ref.top (LR m c)).1 (ix3 b s 1) = rR m c (at_ b s) (second (rR m c (at_ b s))) := by rw [Ref.top_val, rR_at]; rfl
  have h := Ref.soft2_apply (Ref.top (LR m c)).1 b s (by rw [h0, h1]; exact le_first _ _) (by rw [h0]; exact hb _ _) (by rw [h0]; exact ht _ _)
  rw [h0, h1] at h
  rcases (show k = 0 ∨ k = 1 by omega) with rfl | rfl
  · rw [h.1, share, if_pos rfl]
  · rw [h.2, share, if_neg (by decide)]
theorem val_v11 : fin m c main_v11 = Ref.soft16 (LG m c) := by
  rw [end_v11, arr7]
  funext (i : S4x4096x16.Idx)
  obtain ⟨b, s, e, rfl⟩ : ∃ b s e, i = ix3 b s e := ⟨i 0, i 1, i 2, eq_ix3 i⟩
  refine (back16 _ b s e).trans ?_
  rw [Ref.soft16_apply, ← rG_at]
  rfl

theorem col0_at (n : Fin 16384) : Ref.col0 (Ref.top (LR m c)).2 (ix1 n) = BitVec.ofNat 32 (first (rR m c n)).val := by
  have h : Ref.col0 (Ref.top (LR m c)).2 (ix1 n) = (Ref.top (LR m c)).2 (ix3 (bt n) (pl n) 0) := by
    pointwise [Ref.col0]
    rfl
  rw [h, Ref.top_idx]
  rfl
theorem col1_at (n : Fin 16384) : Ref.col1 (Ref.top (LR m c)).2 (ix1 n) = BitVec.ofNat 32 (second (rR m c n)).val := by
  have h : Ref.col1 (Ref.top (LR m c)).2 (ix1 n) = (Ref.top (LR m c)).2 (ix3 (bt n) (pl n) 1) := by
    pointwise [Ref.col1]
    rfl
  rw [h, Ref.top_idx]
  rfl
theorem counts_at (e : Fin 16) : Ref.counts (Ref.top (LR m c)).2 (ix1 e)
    = ∑ n, ((if first (rR m c n) = e then (1 : EReal) else 0) + (if second (rR m c n) = e then (1 : EReal) else 0)) := by
  have h : Ref.counts (Ref.top (LR m c)).2 (ix1 e) = FloatOps.sitofp (F := Ideal) .f32 (Ref.hist (Ref.col0 (Ref.top (LR m c)).2) (ix1 e))
      + FloatOps.sitofp (F := Ideal) .f32 (Ref.hist (Ref.col1 (Ref.top (LR m c)).2) (ix1 e)) := by
    pointwise [Ref.counts]
  rw [h, Ref.hist_apply _ _ (col0_at m c), Ref.hist_apply _ _ (col1_at m c), Finset.sum_add_distrib]
theorem val_v12 (hb : Below m c) : fin m c main_v12 = Ref.balance (Ref.counts (Ref.top (LR m c)).2) := by
  rw [end_v12, arr10 m c hb]
  funext (i : S_.Idx)
  obtain rfl : i = ix0 := funext fun a => a.elim0
  rw [Ref.balance_apply]
  exact congrArg bal (funext fun e => (counts_at m c e).symm)
theorem val_v13 : fin m c main_v13 = Ref.importance (Ref.gathered (Ref.soft16 (LG m c))) := by
  rw [end_v13, arr11]
  funext (i : S_.Idx)
  obtain rfl : i = ix0 := funext fun a => a.elim0
  rw [Ref.importance_apply]
  refine congrArg imp (funext fun e => ?_)
  rw [Ref.gathered_apply, ← sum_batches]
  exact Finset.sum_congr rfl fun b _ => Finset.sum_congr rfl fun s _ => by rw [Ref.soft16_apply, rG_at]

/-! ## Finite logits -/

/-- Neither infinity. -/
def IsReal (v : EReal) : Prop := ∃ q : ℝ, v = q
theorem IsReal.add {a b : EReal} : IsReal a → IsReal b → IsReal (a + b) := fun ⟨p, hp⟩ ⟨q, hq⟩ => ⟨p + q, by rw [hp, hq, EReal.coe_add]⟩
theorem IsReal.mul {a b : EReal} : IsReal a → IsReal b → IsReal (a * b) := fun ⟨p, hp⟩ ⟨q, hq⟩ => ⟨p * q, by rw [hp, hq, EReal.coe_mul]⟩
theorem IsReal.ne {a : EReal} : IsReal a → a ≠ ⊥ ∧ a ≠ ⊤ := fun ⟨p, hp⟩ => hp ▸ ⟨EReal.coe_ne_bot p, EReal.coe_ne_top p⟩
theorem real_row (hx : ∀ i, IsReal (m ((c : Thread nD τ).loc main_arg0) i)) (hw : ∀ i, IsReal (m ((c : Thread nD τ).loc main_arg1) i))
    (hr : ∀ i, IsReal (m ((c : Thread nD τ).loc main_arg2) i)) (n : Fin 16384) (e : Fin 16) : IsReal (rR m c n e) := by
  show IsReal (LR m c (ix3 _ _ e))
  rw [LR, Ref.logits_apply]
  exact (Finset.sum_induction _ IsReal (fun _ _ => IsReal.add) ⟨0, rfl⟩ fun d _ => (hx _).mul (hw _)).add (hr _)
theorem posInf_eq : Ideal.ofBits .f32 0x7F800000#32 = ⊤ := by
  simp only [Ideal.ofBits, Ideal.ieee]; rfl
theorem real_of_abs {v : EReal} (h : max v (-v) < ⊤) : IsReal v := by
  induction v with
  | bot => simp at h
  | top => simp at h
  | coe q => exact ⟨q, rfl⟩
/-- An array whose absolute values all compare below +∞ holds reals. -/
theorem real_of_below {S : Shape} (x : FVec Ideal S .f32) (d : Fin 0 → Fin S.rank) (hB : Cert.Pre_router_finite.S_.BroadcastsInDim S d)
    (h : cmpf .olt (Host.absf x) (broadcastInDim S d hB (constant Cert.Pre_router_finite.S_ .f32 0x7F800000#32)) = fun _ => 1#1) (i : S.Idx) : IsReal (x i) := by
  have h : BitVec.ofBool (decide (max (x i) (-(x i)) < Ideal.ofBits .f32 0x7F800000#32)) = 1#1 := congrFun h i
  rw [posInf_eq] at h
  by_cases hv : max (x i) (-(x i)) < ⊤
  · exact real_of_abs hv
  · rw [decide_eq_false hv] at h
    exact absurd h (by decide)

/-- What a run of the kernel's program leaves: the reference's six results, and the arguments as they were. -/
theorem results (hb : Below m c) (ht : ∀ n e, rR m c n e ≠ ⊤) {r : PUnit × MemSt nD τ sig (Elt Ideal)}
    (h : Pipeline.FramePost cfgs (dats m) 0 (Pipeline.afterTail₀ cfgs (dats m) 0 (V0 m) [hostOps1]) r) :
    r.2.mem ((c.tc : Thread nD τ).loc main_v5) = LR m c
    ∧ r.2.mem ((c.tc : Thread nD τ).loc main_v7) = (Ref.top (LR m c)).2
    ∧ r.2.mem ((c.tc : Thread nD τ).loc main_v9) = Ref.soft2 (Ref.top (LR m c)).1
    ∧ r.2.mem ((c.tc : Thread nD τ).loc main_v11) = Ref.soft16 (LG m c)
    ∧ r.2.mem ((c.tc : Thread nD τ).loc main_v12) = Ref.balance (Ref.counts (Ref.top (LR m c)).2)
    ∧ r.2.mem ((c.tc : Thread nD τ).loc main_v13) = Ref.importance (Ref.gathered (Ref.soft16 (LG m c)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_v5 (Pipeline.mem_restRefs_of main_v5 (by decide) (by decide))).trans (val_v5 m c),
    ((h c).2 main_v7 (Pipeline.mem_restRefs_of main_v7 (by decide) (by decide))).trans (val_v7 m c hb),
    ((h c).2 main_v9 (Pipeline.mem_restRefs_of main_v9 (by decide) (by decide))).trans (val_v9 m c hb ht),
    ((h c).2 main_v11 (Pipeline.mem_restRefs_of main_v11 (by decide) (by decide))).trans (val_v11 m c),
    ((h c).2 main_v12 (Pipeline.mem_restRefs_of main_v12 (by decide) (by decide))).trans (val_v12 m c hb),
    ((h c).2 main_v13 (Pipeline.mem_restRefs_of main_v13 (by decide) (by decide))).trans (val_v13 m c),
    args_of m h c⟩
end End
end Cert.Router.KernelIdeal

end
-- ==== Proof.lean ====
/-
  The proof of the certificate: the launches' frames (Proof/WRun.lean for the kernel's own bits, Proof/Run.lean for the
  exact reading), the reference's (Proof/Frames.lean), and what they give.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_router_finite
public import proofs.«01_k».proof.Proof.Run
public import proofs.«01_k».proof.Proof.WRun
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Inputs that satisfy the precondition give each token sixteen real router logits. -/
theorem real_rows (m) (h : Cert.Pre_KernelIdeal_router_finite m) (c : Dev Cert.KernelIdeal.nD) (n : Fin 16384) (e : Fin 16) :
    Cert.Router.KernelIdeal.IsReal (Cert.Router.KernelIdeal.rR m c n e) :=
  Cert.Router.KernelIdeal.real_row m c
    (Cert.Router.KernelIdeal.real_of_below _ _ _ (h c).1)
    (Cert.Router.KernelIdeal.real_of_below _ _ _ (h c).2.1)
    (Cert.Router.KernelIdeal.real_of_below _ _ _ (h c).2.2) n e

theorem algebraic : Cert.algebraic_KernelIdeal_ReferenceIdeal_pre_router_finite := by
  intro m g m' g' hP hA
  have hb : ∀ c, Cert.Router.KernelIdeal.Below m c := fun c n e => (real_rows m hP c n e).ne.1
  have ht : ∀ c n e, Cert.Router.KernelIdeal.rR m c n e ≠ ⊤ := fun c n e => (real_rows m hP c n e).ne.2
  refine ⟨fun c => Cert.Router.KernelIdeal.LR m c, fun c => (Cert.Router.Ref.top (Cert.Router.KernelIdeal.LR m c)).2,
    fun c => Cert.Router.Ref.soft2 (Cert.Router.Ref.top (Cert.Router.KernelIdeal.LR m c)).1,
    fun c => Cert.Router.Ref.soft16 (Cert.Router.KernelIdeal.LG m c),
    fun c => Cert.Router.Ref.balance (Cert.Router.Ref.counts (Cert.Router.Ref.top (Cert.Router.KernelIdeal.LR m c)).2),
    fun c => Cert.Router.Ref.importance (Cert.Router.Ref.gathered (Cert.Router.Ref.soft16 (Cert.Router.KernelIdeal.LG m c))), ?_, ?_⟩
  · exact (θ_run _ _ _).mono (fun r h c => Cert.Router.KernelIdeal.results m c (hb c) (ht c) h.1) (Cert.Router.KernelIdeal.run_main m g)
  · refine (θ_run _ _ _).mono (fun r h c => ?_) (Cert.Router.Ref.run m' g')
    obtain ⟨h0, h1, h2, h3, h4⟩ := hA c
    have eR : Cert.Router.Ref.logits (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = Cert.Router.KernelIdeal.LR m c := by
      rw [h0, h1, h2]; rfl
    have eG : Cert.Router.Ref.logits (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = Cert.Router.KernelIdeal.LG m c := by
      rw [h0, h3, h4]; rfl
    have h := h c
    rw [eR, eG] at h
    exact h

theorem claim : Cert.Claim := ⟨Cert.Kernel.Gen.facts, Cert.KernelIdeal.Gen.facts, Cert.ReferenceIdeal.Gen.facts, Cert.Pre_router_finite.Gen.facts,
  fun m g _ => Cert.Router.Kernel.frame_run m g,
  fun m g _ => Cert.Router.KernelIdeal.frame_run m g,
  fun m g _ => Cert.Router.KernelIdeal.frame_run m g,
  fun m g _ => Cert.Router.ReferenceIdeal.frame_run m g,
  fun m g _ => Cert.Router.ReferenceIdeal.frame_run m g,
  trivial,
  algebraic⟩

end Cert.Proof

end
